-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_uniform [hPre_finite_uniform : Cert.Pre_finite_uniform.Facts] (m : (ℓ : Loc Cert.KernelIdeal.nD Cert.KernelIdeal.τ Cert.KernelIdeal.sig) → Buf (Elt Ideal) ℓ) : Prop :=
  ∀ c : Dev Cert.KernelIdeal.nD,
    (Cert.Pre_finite_uniform.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_uniform [hPre_finite_uniform : Cert.Pre_finite_uniform.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_uniform.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_uniform [hKernelIdeal : Cert.KernelIdeal.Facts] [hPre_finite_uniform : Cert.Pre_finite_uniform.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_uniform m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_uniform [hReferenceIdeal : Cert.ReferenceIdeal.Facts] [hPre_finite_uniform : Cert.Pre_finite_uniform.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_uniform m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_finite_uniform [hKernelIdeal : Cert.KernelIdeal.Facts] [hReferenceIdeal : Cert.ReferenceIdeal.Facts] [hPre_finite_uniform : Cert.Pre_finite_uniform.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_uniform m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_uniform : Cert.Pre_finite_uniform.Facts),
    quiescent_Kernel (hKernel := hKernel)
    ∧ quiescent_KernelIdeal (hKernelIdeal := hKernelIdeal)
    ∧ quiescent_KernelIdeal_pre_finite_uniform (hKernelIdeal := hKernelIdeal) (hPre_finite_uniform := hPre_finite_uniform)
    ∧ quiescent_ReferenceIdeal (hReferenceIdeal := hReferenceIdeal)
    ∧ quiescent_ReferenceIdeal_pre_finite_uniform (hReferenceIdeal := hReferenceIdeal) (hPre_finite_uniform := hPre_finite_uniform)
    ∧ preserves_Kernel_KernelIdeal
    ∧ algebraic_KernelIdeal_ReferenceIdeal_pre_finite_uniform (hKernelIdeal := hKernelIdeal) (hReferenceIdeal := hReferenceIdeal) (hPre_finite_uniform := hPre_finite_uniform)
-- ==== Pre_finite_uniform.lean ====
abbrev S32768x1024 : Shape := ⟨2, ![32768, 1024]⟩
abbrev S16 : Shape := ⟨1, ![16]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v12 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v12 main_v16
  let main_v18 : FVec F S256x1 .f32 := Host.absf main_arg4
  let main_cst_6 : FVec F S_ .f32 := constant S_ .f32 0x7F800000#32
  let main_v19 : FVec F S256x1 .f32 := broadcastInDim S256x1 ![] bcast_S_S256x1 main_cst_6
  let main_v20 : IVec S256x1 1 := cmpf .olt main_v18 main_v19
  let main_c_7 : IVec S_ 1 := constantI S_ 1 1#1
  let main_v21 : IVec S_ 1 := (fun x v => Host.reduce IntOp.andi x v reducesTo_S256x1_S_d0_1 h_S_) main_v20 main_c_7
  let main_v22 : IVec S_ 1 := andi main_v17 main_v21
  let main_v23 : FVec F S1 .f32 := Host.absf main_arg5
  let main_cst_8 : FVec F S_ .f32 := constant S_ .f32 0x7F800000#32
  let main_v24 : FVec F S1 .f32 := broadcastInDim S1 ![] bcast_S_S1 main_cst_8
  let main_v25 : IVec S1 1 := cmpf .olt main_v23 main_v24
  let main_c_9 : IVec S_ 1 := constantI S_ 1 1#1
  let main_v26 : IVec S_ 1 := (fun x v => Host.reduce IntOp.andi x v reducesTo_S1_S_d0 h_S_) main_v25 main_c_9
  let main_v27 : IVec S_ 1 := andi main_v22 main_v26
  main_v27

def fn {F : FTy → Type} [FloatOps F] (main_arg0 : FVec F S32768x1024 .f32) (main_arg1 : IVec S16 32) (main_arg2 : FVec F S1024x256 .f32) (main_arg3 : FVec F S256 .f32) (main_arg4 : FVec F S256x1 .f32) (main_arg5 : FVec F S1 .f32) : IVec S_ 1 :=
  let main_c : IVec S_ 32 := constantI S_ 32 2048#32
  let main_v0 : IVec S16 32 := broadcastInDim S16 ![] bcast_S_S16 main_c
  let main_v1 : IVec S16 1 := cmpi .eq main_arg1 main_v0
  let main_c_0 : IVec S_ 1 := constantI S_ 1 1#1
  let main_v2 : IVec S_ 1 := (fun x v => Host.reduce IntOp.andi x v reducesTo_S16_S_d0 h_S_) main_v1 main_c_0
  let main_v3 : FVec F S32768x1024 .f32 := Host.absf main_arg0
  let main_cst : FVec F S_ .f32 := constant S_ .f32 0x7F800000#32
  let main_v4 : FVec F S32768x1024 .f32 := broadcastInDim S32768x1024 ![] bcast_S_S32768x1024 main_cst
  let main_v5 : IVec S32768x1024 1 := cmpf .olt main_v3 main_v4
  let main_c_1 : IVec S_ 1 := constantI S_ 1 1#1
  let main_v6 : IVec S_ 1 := (fun x v => Host.reduce IntOp.andi x v reducesTo_S32768x1024_S_d0_1 h_S_) main_v5 main_c_1
  let main_v7 : IVec S_ 1 := andi main_v2 main_v6
  let main_v8 : FVec F S1024x256 .f32 := Host.absf main_arg2
  let main_cst_2 : FVec F S_ .f32 := constant S_ .f32 0x7F800000#32
  let main_v9 : FVec F S1024x256 .f32 := broadcastInDim S1024x256 ![] bcast_S_S1024x256 main_cst_2
  let main_v10 : IVec S1024x256 1 := cmpf .olt main_v8 main_v9
  let main_c_3 : IVec S_ 1 := constantI S_ 1 1#1
  let main_v11 : IVec S_ 1 := (fun x v => Host.reduce IntOp.andi x v reducesTo_S1024x256_S_d0_1 h_S_) main_v10 main_c_3
  let main_v12 : IVec S_ 1 := andi main_v7 main_v11
  let main_v13 : FVec F S256 .f32 := Host.absf main_arg3
  let main_cst_4 : FVec F S_ .f32 := constant S_ .f32 0x7F800000#32
  let main_v14 : FVec F S256 .f32 := broadcastInDim S256 ![] bcast_S_S256 main_cst_4
  let main_v15 : IVec S256 1 := cmpf .olt main_v13 main_v14
  let main_c_5 : IVec S_ 1 := constantI S_ 1 1#1
  fn_part1 (F := F) main_arg4 main_arg5 main_v12 main_v15 main_c_5
-- ==== Kernel.lean ====
abbrev S32768x1024 : Shape := ⟨2, ![32768, 1024]⟩
abbrev S16 : Shape := ⟨1, ![16]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S16x1x1024 : Shape := ⟨3, ![16, 1, 1024]⟩
abbrev S4096x1024 : Shape := ⟨2, ![4096, 1024]⟩
abbrev S2x1x1024 : Shape := ⟨3, ![2, 1, 1024]⟩
abbrev S4096x1 : Shape := ⟨2, ![4096, 1]⟩
abbrev S1024x1024 : Shape := ⟨2, ![1024, 1024]⟩
abbrev S1024x1 : Shape := ⟨2, ![1024, 1]⟩
abbrev S1x1024x1 : Shape := ⟨3, ![1, 1024, 1]⟩
abbrev S1x1x1 : Shape := ⟨3, ![1, 1, 1]⟩
abbrev S2048x1 : Shape := ⟨2, ![2048, 1]⟩
abbrev S2048x1024 : Shape := ⟨2, ![2048, 1024]⟩
abbrev S1x1024 : Shape := ⟨2, ![1, 1024]⟩
abbrev S1x2048x1 : Shape := ⟨3, ![1, 2048, 1]⟩
abbrev S1x1x1024 : Shape := ⟨3, ![1, 1, 1024]⟩
abbrev S16x1024 : Shape := ⟨2, ![16, 1024]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S16, .i32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S1x256, .f32⟩
  | .hbm, ⟨7, _⟩ => ⟨S1x1, .f32⟩
  | .hbm, ⟨8, _⟩ => ⟨S16x1x1024, .f32⟩
  | .hbm, ⟨9, _⟩ => ⟨S16x1024, .f32⟩
  | .local _ .vmem, ⟨0, _⟩ => ⟨S4096x1024, .f32⟩
  | .local _ .vmem, ⟨1, _⟩ => ⟨S4096x1024, .f32⟩
  | .local _ .vmem, ⟨2, _⟩ => ⟨S1024x256, .f32⟩
  | .local _ .vmem, ⟨3, _⟩ => ⟨S1x256, .f32⟩
  | .local _ .vmem, ⟨4, _⟩ => ⟨S256x1, .f32⟩
  | .local _ .vmem, ⟨5, _⟩ => ⟨S1x1, .f32⟩
  | .local _ .vmem, ⟨6, _⟩ => ⟨S2x1x1024, .f32⟩
  | .local _ .vmem, ⟨7, _⟩ => ⟨S2x1x1024, .f32⟩
  | .local _ .vmem, ⟨8, _⟩ => ⟨S4096x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S32768x1024 : Shape := ⟨2, ![32768, 1024]⟩
abbrev S16 : Shape := ⟨1, ![16]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩
abbrev S32768x256 : Shape := ⟨2, ![32768, 256]⟩
abbrev S1x256 : Shape := ⟨2, ![1, 256]⟩
abbrev S1x32768 : Shape := ⟨2, ![1, 32768]⟩
abbrev S16x32768 : Shape := ⟨2, ![16, 32768]⟩
abbrev S16x1024 : Shape := ⟨2, ![16, 1024]⟩

abbrev nBuf : Space → Nat
  | .hbm => 123
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16, .i32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S16, .i32⟩
  | .hbm, ⟨7, _⟩ => ⟨S1, .i32⟩
  | .hbm, ⟨8, _⟩ => ⟨S15, .i32⟩
  | .hbm, ⟨9, _⟩ => ⟨S16, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S16, .i32⟩
  | .hbm, ⟨14, _⟩ => ⟨S_, .i32⟩
  | .hbm, ⟨15, _⟩ => ⟨S_, .i32⟩
  | .hbm, ⟨16, _⟩ => ⟨S16, .i32⟩
  | .hbm, ⟨17, _⟩ => ⟨S_, .i32⟩
  | .hbm, ⟨18, _⟩ => ⟨S32768, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S16x1, .i32⟩
  | .hbm, ⟨27, _⟩ => ⟨S_, .i32⟩
  | .hbm, ⟨28, _⟩ => ⟨S16, .i32⟩
  | .hbm, ⟨29, _⟩ => ⟨S32768, .i32⟩
  | .hbm, ⟨30, _⟩ => ⟨S_, .i32⟩
  | .hbm, ⟨31, _⟩ => ⟨S_, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S32768x1, .i32⟩
  | .hbm, ⟨44, _⟩ => ⟨S1, .i32⟩
  | .hbm, ⟨45, _⟩ => ⟨S_, .i32⟩
  | .hbm, ⟨46, _⟩ => ⟨S32768x1, .i32⟩
  | .hbm, ⟨47, _⟩ => ⟨S32768x1, .i1⟩
  | .hbm, ⟨48, _⟩ => ⟨S1x1, .i32⟩
  | .hbm, ⟨49, _⟩ => ⟨S32768x1, .i32⟩
  | .hbm, ⟨50, _⟩ => ⟨S32768x1, .i1⟩
  | .hbm, ⟨51, _⟩ => ⟨S32768x1, .i1⟩
  | .hbm, ⟨52, _⟩ => ⟨S_, .i1⟩
  | .hbm, ⟨53, _⟩ => ⟨S32768, .i1⟩
  | .hbm, ⟨54, _⟩ => ⟨S32768, .i32⟩
  | .hbm, ⟨55, _⟩ => ⟨S_, .i32⟩
  | .hbm, ⟨56, _⟩ => ⟨S32768, .i32⟩
  | .hbm, ⟨57, _⟩ => ⟨S32768, .i32⟩
  | .hbm, ⟨58, _⟩ => ⟨S32768x256, .f32⟩
  | .hbm, ⟨59, _⟩ => ⟨S1x256, .f32⟩
  | .hbm, ⟨60, _⟩ => ⟨S32768x256, .f32⟩
  | .hbm, ⟨61, _⟩ => ⟨S32768x256, .f32⟩
  | .hbm, ⟨62, _⟩ => ⟨S_, .f32⟩
  | .hbm, ⟨63, _⟩ => ⟨S32768x256, .f32⟩
  | .hbm, ⟨64, _⟩ => ⟨S32768x256, .f32⟩
  | .hbm, ⟨65, _⟩ => ⟨S32768x256, .f32⟩
  | .hbm, ⟨66, _⟩ => ⟨S_, .f32⟩
  | .hbm, ⟨67, _⟩ => ⟨S_, .f32⟩
  | .hbm, ⟨68, _⟩ => ⟨S32768x256, .f32⟩
  | .hbm, ⟨69, _⟩ => ⟨S32768x256, .f32⟩
  | .hbm, ⟨70, _⟩ => ⟨S32768x256, .f32⟩
  | .hbm, ⟨71, _⟩ => ⟨S32768x256, .f32⟩
  | .hbm, ⟨72, _⟩ => ⟨S32768x1, .f32⟩
  | .hbm, ⟨73, _⟩ => ⟨S1x1, .f32⟩
  | .hbm, ⟨74, _⟩ => ⟨S32768x1, .f32⟩
  | .hbm, ⟨75, _⟩ => ⟨S32768x1, .f32⟩
  | .hbm, ⟨76, _⟩ => ⟨S32768, .f32⟩
  | .hbm, ⟨77, _⟩ => ⟨S1x32768, .i32⟩
  | .hbm, ⟨78, _⟩ => ⟨S16, .i32⟩
  | .hbm, ⟨79, _⟩ => ⟨S16x1, .i32⟩
  | .hbm, ⟨80, _⟩ => ⟨S16x32768, .i32⟩
  | .hbm, ⟨81, _⟩ => ⟨S16x32768, .i32⟩
  | .hbm, ⟨82, _⟩ => ⟨S16x32768, .i1⟩
  | .hbm, ⟨83, _⟩ => ⟨S1x32768, .f32⟩
  | .hbm, ⟨84, _⟩ => ⟨S_, .f32⟩
  | .hbm, ⟨85, _⟩ => ⟨S_, .f32⟩
  | .hbm, ⟨86, _⟩ => ⟨S16x32768, .f32⟩
  | .hbm, ⟨87, _⟩ => ⟨S16x32768, .f32⟩
  | .hbm, ⟨88, _⟩ => ⟨S16x32768, .f32⟩
  | .hbm, ⟨89, _⟩ => ⟨S_, .f32⟩
  | .hbm, ⟨90, _⟩ => ⟨S16, .f32⟩
  | .hbm, ⟨91, _⟩ => ⟨S_, .i32⟩
  | .hbm, ⟨92, _⟩ => ⟨S32768, .i32⟩
  | .hbm, ⟨93, _⟩ => ⟨S32768, .i1⟩
  | .hbm, ⟨94, _⟩ => ⟨S_, .i32⟩
  | .hbm, ⟨95, _⟩ => ⟨S32768, .i32⟩
  | .hbm, ⟨96, _⟩ => ⟨S32768, .i32⟩
  | .hbm, ⟨97, _⟩ => ⟨S32768, .i32⟩
  | .hbm, ⟨98, _⟩ => ⟨S32768x1, .i32⟩
  | .hbm, ⟨99, _⟩ => ⟨S32768, .f32⟩
  | .hbm, ⟨100, _⟩ => ⟨S32768, .f32⟩
  | .hbm, ⟨101, _⟩ => ⟨S32768, .f32⟩
  | .hbm, ⟨102, _⟩ => ⟨S_, .f32⟩
  | .hbm, ⟨103, _⟩ => ⟨S16, .f32⟩
  | .hbm, ⟨104, _⟩ => ⟨S32768x1, .i32⟩
  | .hbm, ⟨105, _⟩ => ⟨S16, .f32⟩
  | .hbm, ⟨106, _⟩ => ⟨S_, .i32⟩
  | .hbm, ⟨107, _⟩ => ⟨S32768, .i32⟩
  | .hbm, ⟨108, _⟩ => ⟨S32768, .i1⟩
  | .hbm, ⟨109, _⟩ => ⟨S_, .i32⟩
  | .hbm, ⟨110, _⟩ => ⟨S32768, .i32⟩
  | .hbm, ⟨111, _⟩ => ⟨S32768, .i32⟩
  | .hbm, ⟨112, _⟩ => ⟨S32768, .i32⟩
  | .hbm, ⟨113, _⟩ => ⟨S32768x1, .i32⟩
  | .hbm, ⟨114, _⟩ => ⟨S32768, .f32⟩
  | .hbm, ⟨115, _⟩ => ⟨S32768, .f32⟩
  | .hbm, ⟨116, _⟩ => ⟨S32768x1, .f32⟩
  | .hbm, ⟨117, _⟩ => ⟨S32768x1024, .f32⟩
  | .hbm, ⟨118, _⟩ => ⟨S32768x1024, .f32⟩
  | .hbm, ⟨119, _⟩ => ⟨S_, .f32⟩
  | .hbm, ⟨120, _⟩ => ⟨S16x1024, .f32⟩
  | .hbm, ⟨121, _⟩ => ⟨S32768x1, .i32⟩
  | .hbm, ⟨122, _⟩ => ⟨S16x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_call1_call0_c : Ref sig .tc := ⟨.hbm, 14, rfl⟩
abbrev main_call1_call0_v0 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_call2_call0_c : Ref sig .tc := ⟨.hbm, 30, rfl⟩
abbrev main_call2_call0_v0 : Ref sig .tc := ⟨.hbm, 31, rfl⟩
abbrev main_v14 : Ref sig .tc := ⟨.hbm, 32, rfl⟩
abbrev main_c_5 : Ref sig .tc := ⟨.hbm, 33, rfl⟩
abbrev main_v15 : Ref sig .tc := ⟨.hbm, 34, rfl⟩
abbrev main_v16 : Ref sig .tc := ⟨.hbm, 35, rfl⟩
abbrev main_call3_c : Ref sig .tc := ⟨.hbm, 36, rfl⟩
abbrev main_call3_v0 : Ref sig .tc := ⟨.hbm, 37, rfl⟩
abbrev main_call3_v1 : Ref sig .tc := ⟨.hbm, 38, rfl⟩
abbrev main_call3_c_0 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_c_1 : Ref sig .tc := ⟨.hbm, 44, rfl⟩
abbrev main_call3_c_2 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_call3_c_3 : Ref sig .tc := ⟨.hbm, 52, rfl⟩
abbrev main_call3_v12 : Ref sig .tc := ⟨.hbm, 53, rfl⟩
abbrev main_call3_v13 : Ref sig .tc := ⟨.hbm, 54, rfl⟩
abbrev main_call3_c_4 : Ref sig .tc := ⟨.hbm, 55, rfl⟩
abbrev main_call3_v14 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_6 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_7 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v42 : Ref sig .tc := ⟨.hbm, 88, rfl⟩
abbrev main_cst_8 : Ref sig .tc := ⟨.hbm, 89, rfl⟩
abbrev main_v43 : Ref sig .tc := ⟨.hbm, 90, rfl⟩
abbrev main_c_9 : Ref sig .tc := ⟨.hbm, 91, rfl⟩
abbrev main_v44 : Ref sig .tc := ⟨.hbm, 92, rfl⟩
abbrev main_v45 : Ref sig .tc := ⟨.hbm, 93, rfl⟩
abbrev main_c_10 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_11 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_12 : Ref sig .tc := ⟨.hbm, 106, rfl⟩
abbrev main_v56 : Ref sig .tc := ⟨.hbm, 107, rfl⟩
abbrev main_v57 : Ref sig .tc := ⟨.hbm, 108, rfl⟩
abbrev main_c_13 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_14 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩

abbrev nD : Nat := 1
abbrev τ : Topo := Topo.v7x

variable {F : FTy → Type} [FloatOps F]
-- ==== Proof.Consts.lean ====
/-
  The constants of the two programs as extended reals, and what the two ways to write gelu share:
  both are a half of `b` times one plus the error function of `b` over the root of two.
-/
module

public import Idealize.ShloMosaic.PureOps.Ideal.Laws
public import Idealize.ShloMosaic.Lib.IdealHost

@[expose] public section

noncomputable section

namespace Cert.Bags

open Idealize.ShloMosaic

/-- The pattern of positive infinity. -/
theorem bits_top : Ideal.ofBits .f32 0x7F800000#32 = (⊤ : EReal) := by
  simp [Ideal.ofBits, Ideal.ieee]

/-- The pattern of negative infinity. -/
theorem bits_bot : Ideal.ofBits .f32 0xFF800000#32 = (⊥ : EReal) := by
  simp [Ideal.ofBits, Ideal.ieee]

/-- The pattern of one half. -/
theorem bits_half : Ideal.ofBits .f32 0x3F000000#32 = ((1 / 2 : ℝ) : EReal) := by
  simp [Ideal.ofBits, Ideal.ieee]
  rw [← EReal.coe_mul]
  norm_num

/-- The root of one half is one over the root of two. -/
theorem sqrt_half : Ideal.sqrt (Ideal.ofBits .f32 0x3F000000#32) = (((Real.sqrt 2)⁻¹ : ℝ) : EReal) := by
  rw [bits_half, Ideal.sqrt_coe, one_div, Real.sqrt_inv]
  norm_num

/-- The exact gelu. -/
def gelu (b : EReal) : EReal :=
  ((1 / 2 : ℝ) : EReal) * b * (1 + Ideal.erf (b * (((Real.sqrt 2)⁻¹ : ℝ) : EReal)))

/-- The reference's way to write it: by the complementary error function of the negative. -/
theorem gelu_erfc (b : EReal) :
    ((1 / 2 : ℝ) : EReal) * b * Ideal.erfc (-b * (((Real.sqrt 2)⁻¹ : ℝ) : EReal)) = gelu b := by
  rw [EReal.neg_mul, Ideal.erfc_neg]
  rfl

/-- The gelu of a real is a real. -/
theorem gelu_real (r : ℝ) : ∃ s : ℝ, gelu (r : EReal) = (s : EReal) := by
  have he : ∀ q : ℝ, ∃ s : ℝ, Ideal.erf (q : EReal) = (s : EReal) := fun q => ⟨_, rfl⟩
  obtain ⟨s, hs⟩ := he (r * (Real.sqrt 2)⁻¹)
  refine ⟨1 / 2 * r * (1 + s), ?_⟩
  rw [gelu, ← EReal.coe_mul r, hs, ← EReal.coe_mul, ← EReal.coe_one, ← EReal.coe_add, ← EReal.coe_mul]

end Cert.Bags

end
-- ==== Proof.Pre.lean ====
/-
  What the precondition says, read at an index: every bag has 2048 rows, and no float argument is infinite.
-/
module

public import proofs.«01_k».proof.Pre_finite_uniform
public import Idealize.ShloMosaic.Lib.ReduceAll
public import Idealize.ShloMosaic.Lib.ValueIdx
public import Idealize.ShloMosaic.PureOps.Ideal.Laws
public import proofs.«01_k».proof.Proof.Consts

@[expose] public section

noncomputable section

namespace Cert.Bags

open Idealize.ShloMosaic Cert.Pre_finite_uniform Cert.Pre_finite_uniform.Facts

/-- An array of extended reals without an infinite element. -/
def Finite {ι : Type} (x : ι → EReal) : Prop := ∀ i, ∃ r : ℝ, x i = (r : EReal)

/-- An extended real whose absolute value is below the top is a real. -/
theorem real_of_abs_lt {x : EReal} (h : max x (-x) < ⊤) : ∃ r : ℝ, x = (r : EReal) := by
  induction x with
  | bot => simp at h
  | top => simp at h
  | coe r => exact ⟨r, rfl⟩

/-- The conjunction over an array of `|x| < ∞` makes the array finite. -/
theorem finite_of_all {s u : Shape} {t : Shape} {axes : List (Fin s.rank)} [Subsingleton t.Idx] (x : FVec Ideal s .f32) (b : FVec Ideal s .f32)
    (hb : ∀ i, b i = (⊤ : EReal)) (init : u.Idx → BitVec 1) (h : s.ReducesTo axes t) (hu : 0 < u.numel) (j : t.Idx)
    (e : Host.reduce IntOp.andi (cmpf .olt (Host.absf x) b) init h hu j = 1#1) : Finite x := fun i => by
  have e1 := Host.reduce_andi_all _ init h hu j e i
  refine real_of_abs_lt ?_
  have e2 : BitVec.ofBool (decide (max (x i) (-(x i)) < b i)) = 1#1 := e1
  rw [hb] at e2
  by_contra hc
  rw [decide_eq_false hc] at e2
  exact absurd e2 (by decide)

variable [Facts]

/-- The precondition, read: the bags' lengths, and the finiteness of each float argument. -/
theorem pre_reads (x : FVec Ideal S32768x1024 .f32) (n : IVec S16 32) (wa : FVec Ideal S1024x256 .f32) (ba : FVec Ideal S256 .f32)
    (wc : FVec Ideal S256x1 .f32) (bc : FVec Ideal S1 .f32) (h : fn (F := Ideal) x n wa ba wc bc = fun _ => 1#1) :
    (∀ i, n i = 2048#32) ∧ Finite x ∧ Finite wa ∧ Finite ba ∧ Finite wc ∧ Finite bc := by
  have hs : Subsingleton S_.Idx := ⟨fun a b => funext fun k => k.elim0⟩
  have e := congrFun h (Shape.Idx.first h_S_)
  have hd : ∀ a b : BitVec 1, IntOp.andi a b = 1#1 → a = 1#1 ∧ b = 1#1 := by decide
  obtain ⟨e, e6⟩ := hd _ _ e
  obtain ⟨e, e5⟩ := hd _ _ e
  obtain ⟨e, e4⟩ := hd _ _ e
  obtain ⟨e, e3⟩ := hd _ _ e
  obtain ⟨e1, e2⟩ := hd _ _ e
  refine ⟨fun i => ?_, finite_of_all _ _ (fun _ => bits_top) _ _ _ _ e2, finite_of_all _ _ (fun _ => bits_top) _ _ _ _ e3,
    finite_of_all _ _ (fun _ => bits_top) _ _ _ _ e4, finite_of_all _ _ (fun _ => bits_top) _ _ _ _ e5,
    finite_of_all _ _ (fun _ => bits_top) _ _ _ _ e6⟩
  have e1' := Host.reduce_andi_all _ _ _ _ _ e1 i
  have e1'' : BitVec.ofBool (n i == 2048#32) = 1#1 := e1'
  by_contra hc
  rw [beq_false_of_ne hc] at e1''
  exact absurd e1'' (by decide)

end Cert.Bags

end
-- ==== Proof.Spec.lean ====
/-
  The value both programs reach, over plain functions: the score of a row, and the attention pooling of a bag of 2048 rows, in the
  reference's form (each weight divided by the bag's total, then summed) and in the kernel's (the sum multiplied once by
  the reciprocal of the total). For finite scores and rows the two forms are equal.
-/
module

public import proofs.«01_k».proof.Proof.Consts
public import proofs.«01_k».proof.Proof.Pre

@[expose] public section

noncomputable section

namespace Cert.Bags

open Idealize.ShloMosaic

/-- The row's projection to the bottleneck. -/
def bott (x : Fin 1024 → EReal) (wa : Fin 1024 → Fin 256 → EReal) (ba : Fin 256 → EReal) (k : Fin 256) : EReal :=
  (∑ j, x j * wa j k) + ba k

/-- The row's score: the gelu of its projection, against the classifier's weights, and the classifier's bias. -/
def score (x : Fin 1024 → EReal) (wa : Fin 1024 → Fin 256 → EReal) (ba : Fin 256 → EReal) (wc : Fin 256 → EReal) (bc : EReal) : EReal :=
  (∑ k, gelu (bott x wa ba k) * wc k) + bc

/-- The weight of row `r`, before the division: the exponential of its score less the bag's largest. -/
def weight {n : ℕ} (a : Fin n → EReal) (r : Fin n) : EReal := Ideal.exp (a r - Finset.univ.sup a)

/-- The reference's pooling of one lane. -/
def refPool {n : ℕ} (a x : Fin n → EReal) : EReal := ∑ r, Ideal.div (weight a r) (∑ s, weight a s) * x r

/-- The kernel's pooling of one lane. -/
def kerPool {n : ℕ} (a x : Fin n → EReal) : EReal := (∑ r, weight a r * x r) * Ideal.div 1 (∑ s, weight a s)

/-- A sum of reals, summed as extended reals, is their sum. -/
theorem coe_sum' {n : ℕ} (f : Fin n → ℝ) : (∑ i, ((f i : ℝ) : EReal)) = ((∑ i, f i : ℝ) : EReal) :=
  (map_sum (⟨⟨Real.toEReal, EReal.coe_zero⟩, EReal.coe_add⟩ : ℝ →+ EReal) f Finset.univ).symm

/-- The projection of a finite row by finite weights is finite. -/
theorem bott_finite {x : Fin 1024 → EReal} {wa : Fin 1024 → Fin 256 → EReal} {ba : Fin 256 → EReal} (hx : Finite x) (hw : ∀ j, Finite (wa j))
    (hb : Finite ba) (k : Fin 256) : ∃ r : ℝ, bott x wa ba k = (r : EReal) := by
  choose x' hx using hx
  choose w' hw using hw
  choose b' hb using hb
  refine ⟨(∑ j, x' j * w' j k) + b' k, ?_⟩
  rw [bott, hb, EReal.coe_add, ← coe_sum']
  simp only [hx, hw, EReal.coe_mul]

/-- The score of a finite row by finite weights is finite. -/
theorem score_finite {x : Fin 1024 → EReal} {wa : Fin 1024 → Fin 256 → EReal} {ba : Fin 256 → EReal} {wc : Fin 256 → EReal} {bc : EReal}
    (hx : Finite x) (hw : ∀ j, Finite (wa j)) (hb : Finite ba) (hc : Finite wc) (hd : ∃ r : ℝ, bc = (r : EReal)) :
    ∃ r : ℝ, score x wa ba wc bc = (r : EReal) := by
  have hg : ∀ k, ∃ r : ℝ, gelu (bott x wa ba k) = (r : EReal) := fun k => by
    obtain ⟨s, hs⟩ := bott_finite hx hw hb k
    rw [hs]
    exact gelu_real s
  choose g' hg using hg
  choose c' hc using hc
  obtain ⟨d', rfl⟩ := hd
  refine ⟨(∑ k, g' k * c' k) + d', ?_⟩
  rw [score, EReal.coe_add, ← coe_sum']
  simp only [hg, hc, EReal.coe_mul]

/-- **The two poolings are one** when the scores and the rows are finite: the total is a positive real. -/
theorem pool_eq {n : ℕ} (hn : 0 < n) {a x : Fin n → EReal} (ha : Finite a) (hx : Finite x) : kerPool a x = refPool a x := by
  have hne : (Finset.univ : Finset (Fin n)).Nonempty := ⟨⟨0, hn⟩, Finset.mem_univ _⟩
  obtain ⟨r₀, -, h₀⟩ := Finset.exists_mem_eq_sup Finset.univ hne a
  choose a' ha using ha
  choose x' hx using hx
  have he : ∀ r, weight a r = ((Real.exp (a' r - a' r₀) : ℝ) : EReal) := fun r => by
    rw [weight, h₀, ha, ha, ← EReal.coe_sub]
    rfl
  have hS : (∑ s, Real.exp (a' s - a' r₀)) ≠ 0 := (Finset.sum_pos (fun i _ => Real.exp_pos _) hne).ne'
  unfold kerPool refPool
  simp only [he, hx, coe_sum', Ideal.div_coe hS, ← EReal.coe_mul]
  rw [← EReal.coe_one, ← EReal.coe_mul, ← EReal.coe_mul, Finset.sum_mul]
  refine congrArg _ (Finset.sum_congr rfl fun r _ => ?_)
  ring

/-- The largest of a bag's scores is the larger of its two halves' largest. -/
theorem sup_halves (a : Fin 2048 → EReal) :
    Finset.univ.sup a = max (Finset.univ.sup fun r : Fin 1024 => a ⟨r.val, by omega⟩) (Finset.univ.sup fun r : Fin 1024 => a ⟨1024 + r.val, by omega⟩) := by
  refine le_antisymm (Finset.sup_le fun r _ => ?_) (max_le (Finset.sup_le fun r _ => Finset.le_sup (f := a) (Finset.mem_univ _))
    (Finset.sup_le fun r _ => Finset.le_sup (f := a) (Finset.mem_univ _)))
  by_cases h : r.val < 1024
  · exact le_max_of_le_left (Finset.le_sup (f := fun r : Fin 1024 => a ⟨r.val, by omega⟩) (Finset.mem_univ ⟨r.val, h⟩))
  · refine le_max_of_le_right (le_trans (le_of_eq (congrArg a (Fin.ext ?_)))
      (Finset.le_sup (f := fun r : Fin 1024 => a ⟨1024 + r.val, by omega⟩) (Finset.mem_univ ⟨r.val - 1024, by omega⟩)))
    show r.val = 1024 + (r.val - 1024)
    omega

/-- Row `r` of bag `b`. -/
def row (b : Fin 16) (r : Fin 2048) : Fin 32768 := ⟨2048 * b.val + r.val, by omega⟩

/-- The largest over all rows, the rows of the other bags counting as minus infinity, is the largest over the bag. -/
theorem sup_bag (a : Fin 32768 → EReal) (b : Fin 16) (g : Fin 32768 → EReal) (hin : ∀ t, t.val / 2048 = b.val → g t = a t)
    (hout : ∀ t, t.val / 2048 ≠ b.val → g t = ⊥) : Finset.univ.sup g = Finset.univ.sup fun r => a (row b r) := by
  refine le_antisymm (Finset.sup_le fun t _ => ?_) (Finset.sup_le fun r _ => ?_)
  · by_cases h : t.val / 2048 = b.val
    · rw [hin t h]
      refine le_trans (le_of_eq (congrArg a (Fin.ext ?_)))
        (Finset.le_sup (f := fun r => a (row b r)) (Finset.mem_univ (⟨t.val % 2048, Nat.mod_lt _ (by decide)⟩ : Fin 2048)))
      show t.val = 2048 * b.val + t.val % 2048
      omega
    · rw [hout t h]
      exact bot_le
  · rw [← hin (row b r) (by show (2048 * b.val + r.val) / 2048 = b.val; omega)]
    exact Finset.le_sup (f := g) (Finset.mem_univ _)

end Cert.Bags

end
-- ==== Proof.KerPay.lean ====
/-
  What the kernel's body computes, read at an index: the score of a row from the rows it loads, the largest score of a
  chunk of 1024 rows, and the pooling of a bag's 2048 rows from their scores and its largest.
-/
module

public import proofs.«01_k».proof.Proof.Gen.KernelIdeal.Skeleton
public import proofs.«01_k».proof.Proof.Spec
public import Idealize.ShloMosaic.Lib.Pipeline.ValueKit
public import Idealize.ShloMosaic.Lib.Pointwise

@[expose] public section

set_option maxRecDepth 16384

noncomputable section

namespace Cert.Bags

open Idealize.ShloMosaic Cert.KernelIdeal Cert.KernelIdeal.Gen

section Score

variable (x : Vec Ideal S1024x1024 .f32) (wa : Vec Ideal S1024x256 .f32) (ba : Vec Ideal S1x256 .f32) (wc : Vec Ideal S256x1 .f32)
  (bc : Vec Ideal S1x1 .f32)

/-- The kernel's scores of a chunk of rows, at row `r`. -/
theorem pay2_at (r : Fin 1024) : k0_pay2 x wa ba wc bc (ix2 r (0 : Fin 1))
    = score (fun j => x (ix2 r j)) (fun j k => wa (ix2 j k)) (fun k => ba (ix2 (0 : Fin 1) k)) (fun k => wc (ix2 k (0 : Fin 1)))
        (bc (ix2 (0 : Fin 1) (0 : Fin 1))) := by
  have hn : (Named.named κ "inv_sqrt2" 0x3F3504F3#32 : Ideal .f32) = (((Real.sqrt 2)⁻¹ : ℝ) : EReal) :=
    IdealRules.named_const.ideal_named_scalar _ _ _ _ rfl
  pointwise [k0_pay2]
  rw [hn, bits_half]
  rfl

/-- The first bag's first chunk leaves its scores in the scratch. -/
theorem pay3_eq : k0_pay3 x wa ba wc bc = k0_pay2 x wa ba wc bc := shapeCast_self _ _

/-- The second bag's first chunk has the same scores of its rows, -/
theorem pay7_eq : k0_pay7 (k0_pay5 x wa) (k0_pay6 ba) wc bc = k0_pay2 x wa ba wc bc := rfl

/-- which it leaves in the scratch. -/
theorem pay8_eq : k0_pay8 (k0_pay5 x wa) (k0_pay6 ba) wc bc = k0_pay2 x wa ba wc bc := shapeCast_self _ _

/-- The first bag's second chunk has the same scores of its rows, -/
theorem pay11_eq : k0_pay11 (k0_pay10 x wa ba) wc bc = k0_pay2 x wa ba wc bc := rfl

/-- which it leaves in the scratch. -/
theorem pay12_eq : k0_pay12 (k0_pay10 x wa ba) wc bc = k0_pay2 x wa ba wc bc := shapeCast_self _ _

/-- The second bag's second chunk has the same scores of its rows, -/
theorem pay14_eq : k0_pay14 x wa ba wc bc = k0_pay2 x wa ba wc bc := rfl

/-- which it leaves in the scratch. -/
theorem pay15_eq : k0_pay15 (k0_pay14 x wa ba wc bc) = k0_pay2 x wa ba wc bc := shapeCast_self _ _

/-- The largest of a family over the pairs of a row and the one column is the largest over the rows. -/
theorem fold_pairs {n : ℕ} (f : Fin n → EReal) :
    Finset.fold max (Ideal.ofBits FTy.f32 4286578688#32) (fun p : Fin n × Fin 1 => f p.1) Finset.univ = Finset.univ.sup f := by
  rw [bits_bot]
  refine le_antisymm (Finset.sup_le fun p _ => Finset.le_sup (f := f) (Finset.mem_univ p.1))
    (Finset.sup_le fun r _ => Finset.le_sup (f := fun p : Fin n × Fin 1 => f p.1) (Finset.mem_univ (r, 0)))

/-- The largest score of the first bag's first chunk. -/
theorem pay4_eq : k0_pay4 x wa ba wc bc = Finset.univ.sup fun r : Fin 1024 => k0_pay2 x wa ba wc bc (ix2 r (0 : Fin 1)) := by
  pointwise [k0_pay4]
  exact fold_pairs fun r => k0_pay2 x wa ba wc bc (ix2 r 0)

/-- The second bag's first chunk takes the same largest, -/
theorem pay9_eq : k0_pay9 (k0_pay5 x wa) (k0_pay6 ba) wc bc = k0_pay4 x wa ba wc bc := rfl

/-- and so does the first bag's second chunk. -/
theorem pay13_eq : k0_pay13 (k0_pay10 x wa ba) wc bc = k0_pay4 x wa ba wc bc := rfl

/-- The second bag's pooling takes the largest of its second chunk, then pools as the first bag's does. -/
theorem pay17_eq (a : Ideal .f32) (s : Vec Ideal S2048x1 .f32) (y : Vec Ideal S2048x1024 .f32) :
    k0_pay1 (k0_pay17 a (k0_pay14 x wa ba wc bc) s y) = k0_pay16 a (k0_pay4 x wa ba wc bc) s y := rfl

end Score

/-- The pooling of a bag at lane `l`, from its scores and the largest scores of its two chunks. -/
theorem pay16_at (a b : Ideal .f32) (s : Vec Ideal S2048x1 .f32) (y : Vec Ideal S2048x1024 .f32) (l : Fin 1024)
    (hm : max a b = Finset.univ.sup fun r : Fin 2048 => s (ix2 r (0 : Fin 1))) :
    k0_pay16 a b s y (ix3 (0 : Fin 1) (0 : Fin 1) l) = kerPool (fun r => s (ix2 r (0 : Fin 1))) (fun r => y (ix2 r l)) := by
  pointwise [k0_pay16]
  simp only [hm, Finset.sum_const, Finset.card_univ, Fintype.card_fin, one_smul]
  rfl

end Cert.Bags
-- ==== Proof.KerBlock.lean ====
/-
  What one grid point of the kernel writes: the pooling of its two bags, each from the 2048 rows of the bag in the block.
-/
module

public import proofs.«01_k».proof.Proof.Gen.KernelIdeal.Frame
public import proofs.«01_k».proof.Proof.KerPay

@[expose] public section

set_option maxRecDepth 16384

noncomputable section

namespace Cert.Bags

open Idealize.ShloMosaic Cert.KernelIdeal Cert.KernelIdeal.Gen

section Block

variable (x : Vec Ideal S4096x1024 .f32) (wa : Vec Ideal S1024x256 .f32) (ba : Vec Ideal S1x256 .f32) (wc : Vec Ideal S256x1 .f32)
  (bc : Vec Ideal S1x1 .f32)

/-- The score of row `p` of a block of 4096 rows. -/
def rowScore (p : Fin 4096) : EReal :=
  score (fun j => x (ix2 p j)) (fun j k => wa (ix2 j k)) (fun k => ba (ix2 (0 : Fin 1) k)) (fun k => wc (ix2 k (0 : Fin 1)))
    (bc (ix2 (0 : Fin 1) (0 : Fin 1)))

/-- The chunk of 1024 rows that begins at row `o` of the block. -/
abbrev chunk (o : ℕ) (ho : ∀ a, ![o, 0] a + ![1024, 1024] a ≤ S4096x1024.size a) : Vec Ideal S1024x1024 .f32 :=
  View.ld x (Rect.unit ![o, 0] ![1024, 1024] ho)

/-- The kernel's scores of a chunk are the block's scores of its rows. -/
theorem chunk_score (o : ℕ) (ho : ∀ a, ![o, 0] a + ![1024, 1024] a ≤ S4096x1024.size a) (r : Fin 1024) (hp : o + r.val < 4096) :
    k0_pay2 (chunk x o ho) wa ba wc bc (ix2 r (0 : Fin 1)) = rowScore x wa ba wc bc ⟨o + r.val, hp⟩ := by
  rw [pay2_at, rowScore]
  congr 1
  funext j
  show View.ld x (Rect.unit ![o, 0] ![1024, 1024] ho) (ix2 r j) = _
  pointwise

/-- The block's scores as the scratch holds them, a column of 4096 rows. -/
def column : Vec Ideal S4096x1 .f32 := fun y => rowScore x wa ba wc bc (y 0)

/-- One chunk's piece of the scratch is its part of the column. -/
theorem piece_eq (o : ℕ) (ho : ∀ a, ![o, 0] a + ![1024, 1024] a ≤ S4096x1024.size a)
    (hs : ∀ a, ![o, 0] a + ![1024, 1] a ≤ S4096x1.size a) (p : S1024x1.Idx) :
    k0_pay2 (chunk x o ho) wa ba wc bc p = column x wa ba wc bc ((Rect.unit (s := S4096x1) ![o, 0] ![1024, 1] hs).emb p) := by
  have hp : o + (p 0).val < 4096 := by
    have h0 : o + 1024 ≤ 4096 := ho 0
    have h1 : (p 0).val < 1024 := (p 0).isLt
    omega
  have e : p = ix2 (p 0) (0 : Fin 1) := funext fun a => match a with | ⟨0, _⟩ => rfl | ⟨1, _⟩ => Fin.ext (Nat.lt_one_iff.1 (p 1).isLt)
  rw [e]
  refine (chunk_score x wa ba wc bc o ho (p 0) hp).trans ?_
  refine congrArg (rowScore x wa ba wc bc) (Fin.ext ?_)
  show o + (p 0).val = o + 1 * (p 0).val
  omega

/-- The four stores of the scratch. -/
abbrev stores (h0 : ∀ a, ![0, 0] a + ![1024, 1024] a ≤ S4096x1024.size a) (h1 : ∀ a, ![1024, 0] a + ![1024, 1024] a ≤ S4096x1024.size a)
    (h2 : ∀ a, ![2048, 0] a + ![1024, 1024] a ≤ S4096x1024.size a) (h3 : ∀ a, ![3072, 0] a + ![1024, 1024] a ≤ S4096x1024.size a) :
    List (View.Piece (Elt Ideal) S4096x1 .f32) :=
  [⟨Rect.unit ![3072, 0] ![1024, 1] inb_S4096x1_S1024x1_3072_0, k0_pay2 (chunk x 3072 h3) wa ba wc bc⟩,
    ⟨Rect.unit ![1024, 0] ![1024, 1] inb_S4096x1_S1024x1_1024_0, k0_pay2 (chunk x 1024 h1) wa ba wc bc⟩,
    ⟨Rect.unit ![2048, 0] ![1024, 1] inb_S4096x1_S1024x1_2048_0, k0_pay2 (chunk x 2048 h2) wa ba wc bc⟩,
    ⟨Rect.unit ![0, 0] ![1024, 1] inb_S4096x1_S1024x1_0_0, k0_pay2 (chunk x 0 h0) wa ba wc bc⟩]

/-- They leave the column of scores. -/
theorem stores_eq (h0 : ∀ a, ![0, 0] a + ![1024, 1024] a ≤ S4096x1024.size a) (h1 : ∀ a, ![1024, 0] a + ![1024, 1024] a ≤ S4096x1024.size a)
    (h2 : ∀ a, ![2048, 0] a + ![1024, 1024] a ≤ S4096x1024.size a) (h3 : ∀ a, ![3072, 0] a + ![1024, 1024] a ≤ S4096x1024.size a) :
    View.canon (stores x wa ba wc bc h0 h1 h2 h3) = column x wa ba wc bc := by
  funext y
  refine View.canon_apply_of_pieces _ _ (fun p hp => ?_) y (View.cover_of_tiledL (stores x wa ba wc bc h0 h1 h2 h3) S1024x1.size (by sl_kernel_rfl) y)
  simp only [stores, List.mem_cons, List.not_mem_nil, or_false] at hp
  rcases hp with rfl | rfl | rfl | rfl
  · exact piece_eq x wa ba wc bc 3072 h3 inb_S4096x1_S1024x1_3072_0
  · exact piece_eq x wa ba wc bc 1024 h1 inb_S4096x1_S1024x1_1024_0
  · exact piece_eq x wa ba wc bc 2048 h2 inb_S4096x1_S1024x1_2048_0
  · exact piece_eq x wa ba wc bc 0 h0 inb_S4096x1_S1024x1_0_0

/-- One bag: pooling the bag's part of the column, with the largest of its two chunks, is the pooling of the bag's rows. -/
theorem bag_at (o : ℕ) (ha : ∀ a, ![o, 0] a + ![1024, 1024] a ≤ S4096x1024.size a) (hb : ∀ a, ![o + 1024, 0] a + ![1024, 1024] a ≤ S4096x1024.size a)
    (hs : ∀ a, ![o, 0] a + ![2048, 1] a ≤ S4096x1.size a) (hy : ∀ a, ![o, 0] a + ![2048, 1024] a ≤ S4096x1024.size a)
    (hp : ∀ r : Fin 2048, o + r.val < 4096) (l : Fin 1024) :
    k0_pay16 (k0_pay4 (chunk x o ha) wa ba wc bc) (k0_pay4 (chunk x (o + 1024) hb) wa ba wc bc)
        (View.ld (column x wa ba wc bc) (Rect.unit ![o, 0] ![2048, 1] hs)) (View.ld x (Rect.unit ![o, 0] ![2048, 1024] hy))
        (ix3 (0 : Fin 1) (0 : Fin 1) l)
      = kerPool (fun r => rowScore x wa ba wc bc ⟨o + r.val, hp r⟩) (fun r => x (ix2 ⟨o + r.val, hp r⟩ l)) := by
  have es : ∀ r : Fin 2048, View.ld (column x wa ba wc bc) (Rect.unit ![o, 0] ![2048, 1] hs) (ix2 r (0 : Fin 1))
      = rowScore x wa ba wc bc ⟨o + r.val, hp r⟩ := fun r => by
    refine congrArg (rowScore x wa ba wc bc) (Fin.ext ?_)
    show o + 1 * r.val = o + r.val
    omega
  have ey : ∀ r : Fin 2048, View.ld x (Rect.unit ![o, 0] ![2048, 1024] hy) (ix2 r l) = x (ix2 ⟨o + r.val, hp r⟩ l) := fun r => by
    pointwise
  refine (pay16_at _ _ _ _ l ?_).trans ?_
  · simp only [es, pay4_eq]
    rw [sup_halves]
    refine congrArg₂ max (congrArg _ (funext fun r => chunk_score x wa ba wc bc o ha r (hp ⟨r.val, by omega⟩))) (congrArg _ (funext fun r => ?_))
    refine (chunk_score x wa ba wc bc (o + 1024) hb r (by have := hp ⟨1024 + r.val, by omega⟩; dsimp only at this; omega)).trans ?_
    exact congrArg (rowScore x wa ba wc bc) (Fin.ext (by show o + 1024 + r.val = o + (1024 + r.val); omega))
  · simp only [es, ey]

end Block

variable (m : (ℓ : Loc nD τ sig) → Buf (Elt Ideal) ℓ)

/-- What point `t` writes for its bag `k`, at lane `l`. -/
theorem outs_at (c : Dev nD) (t : Fin cfg0.N) (k : Fin 2) (l : Fin 1024) :
    outsAt0 m c t (ix3 k (0 : Fin 1) l)
      = kerPool (fun r : Fin 2048 => rowScore (iblk m c 0 t) (iblk m c 1 t) (iblk m c 2 t) (iblk m c 3 t) (iblk m c 4 t) ⟨2048 * k.val + r.val, by omega⟩)
          (fun r => (show Vec Ideal S4096x1024 .f32 from iblk m c 0 t) (ix2 ⟨2048 * k.val + r.val, by omega⟩ l)) := by
  unfold outsAt0
  frame_out
  simp only [pay3_eq, pay8_eq, pay12_eq, pay15_eq, pay9_eq, pay13_eq, pay17_eq]
  rw [View.readCov_eq_canon', View.readCov_eq_canon']
  rw [stores_eq (iblk m c 0 t) (iblk m c 1 t) (iblk m c 2 t) (iblk m c 3 t) (iblk m c 4 t)]
  match k with
  | ⟨0, _⟩ =>
    have e : (ix3 (⟨0, by omega⟩ : Fin 2) (0 : Fin 1) l : S2x1x1024.Idx)
        = (Rect.unit (s := S2x1x1024) ![0, 0, 0] ![1, 1, 1024] inb_S2x1x1024_S1x1x1024_0_0_0).emb (ix3 (0 : Fin 1) (0 : Fin 1) l) :=
      funext fun a => match a with | ⟨0, _⟩ => rfl | ⟨1, _⟩ => rfl | ⟨2, _⟩ => Fin.ext (by show l.val = 0 + 1 * l.val; omega)
    rw [View.canon_cons_of_not_mem, e, View.canon_cons_emb]
    · exact bag_at (iblk m c 0 t) (iblk m c 1 t) (iblk m c 2 t) (iblk m c 3 t) (iblk m c 4 t) 0 _ _ _ _ (fun r => by omega) l
    · rw [Rect.mem_set_unit]
      intro h
      exact absurd (show 1 ≤ 0 from (h 0).1) (by decide)
  | ⟨1, _⟩ =>
    have e : (ix3 (⟨1, by omega⟩ : Fin 2) (0 : Fin 1) l : S2x1x1024.Idx)
        = (Rect.unit (s := S2x1x1024) ![1, 0, 0] ![1, 1, 1024] inb_S2x1x1024_S1x1x1024_1_0_0).emb (ix3 (0 : Fin 1) (0 : Fin 1) l) :=
      funext fun a => match a with | ⟨0, _⟩ => rfl | ⟨1, _⟩ => rfl | ⟨2, _⟩ => Fin.ext (by show l.val = 0 + 1 * l.val; omega)
    rw [e, View.canon_cons_emb]
    exact bag_at (iblk m c 0 t) (iblk m c 1 t) (iblk m c 2 t) (iblk m c 3 t) (iblk m c 4 t) 2048 _ _ _ _ (fun r => by omega) l

end Cert.Bags
-- ==== Proof.RefScore.lean ====
/-
  The reference's scores: entry `t` of its score vector is the score of row `t`.
-/
module

public import proofs.«01_k».proof.Proof.Gen.ReferenceIdeal.Read
public import proofs.«01_k».proof.Proof.Spec

@[expose] public section

set_option maxRecDepth 16384

noncomputable section

namespace Cert.Bags

open Idealize.ShloMosaic Idealize.ShloMosaic.ValueIdx Cert.ReferenceIdeal Cert.ReferenceIdeal.Read

variable (x0 : FVec Ideal S32768x1024 .f32) (x2 : FVec Ideal S1024x256 .f32) (x3 : FVec Ideal S256 .f32) (x4 : FVec Ideal S256x1 .f32)
  (x5 : FVec Ideal S1 .f32)

/-- The scores of all rows, from the programs' arrays. -/
def scores (t : Fin 32768) : EReal :=
  score (fun j => x0 (ix2 t j)) (fun j k => x2 (ix2 j k)) (fun k => x3 (ix1 k)) (fun k => x4 (ix2 k (0 : Fin 1))) (x5 (ix1 (0 : Fin 1)))

/-- Finite arrays have finite scores. -/
theorem scores_finite (h0 : Finite x0) (h2 : Finite x2) (h3 : Finite x3) (h4 : Finite x4) (h5 : Finite x5) : Finite (scores x0 x2 x3 x4 x5) :=
  fun _ => score_finite (fun _ => h0 _) (fun _ _ => h2 _) (fun _ => h3 _) (fun _ => h4 _) (h5 _)

/-- The projection of row `t`. -/
theorem ref_bott (t : Fin 32768) (k : Fin 256) :
    val_main_v21 (F := Ideal) x0 x2 x3 (ix2 t k) = bott (fun j => x0 (ix2 t j)) (fun j k => x2 (ix2 j k)) (fun k => x3 (ix1 k)) k := by
  have el : ∀ j, lidx_main_v18 (ix2 t k) j = ix2 t j := fun j => funext fun a => match a with | ⟨0, _⟩ => rfl | ⟨1, _⟩ => rfl
  have er : ∀ j, ridx_main_v18 (ix2 t k) j = ix2 j k := fun j => funext fun a => match a with | ⟨0, _⟩ => rfl | ⟨1, _⟩ => rfl
  have e1 : idx_main_v20 (ix2 t k) = ix2 (0 : Fin 1) k := funext fun a => match a with | ⟨0, _⟩ => rfl | ⟨1, _⟩ => rfl
  have e2 : idx_main_v19 (ix2 (0 : Fin 1) k) = ix1 k := funext fun a => match a with | ⟨0, _⟩ => rfl
  rw [val_main_v21_apply, val_main_v18_apply, val_main_v20_apply, e1, val_main_v19_apply, e2]
  simp only [el, er]
  rfl

/-- Its gelu. -/
theorem ref_gelu (t : Fin 32768) (k : Fin 256) :
    val_main_v29 (F := Ideal) x0 x2 x3 (ix2 t k) = gelu (bott (fun j => x0 (ix2 t j)) (fun j k => x2 (ix2 j k)) (fun k => x3 (ix1 k)) k) := by
  rw [val_main_v29_apply, val_main_v23_apply, val_main_v28_apply, val_main_v27_apply, val_main_v24_apply, val_main_v22_apply, val_main_cst_apply,
    val_main_v26_apply, val_main_v25_apply, val_main_cst_6_apply, ref_bott, ← gelu_erfc, ← sqrt_half, ← bits_half]
  rfl

/-- Its score. -/
theorem ref_score (t : Fin 32768) : val_main_v34 (F := Ideal) x0 x2 x3 x4 x5 (ix1 t) = scores x0 x2 x3 x4 x5 t := by
  have e1 : idx_main_v34 (ix1 t) = ix2 t (0 : Fin 1) := funext fun a => match a with | ⟨0, _⟩ => Fin.ext (Nat.div_one _) | ⟨1, _⟩ => rfl
  have el : ∀ k, lidx_main_v30 (ix2 t (0 : Fin 1)) k = ix2 t k := fun k => funext fun a => match a with | ⟨0, _⟩ => rfl | ⟨1, _⟩ => rfl
  have er : ∀ k, ridx_main_v30 (ix2 t (0 : Fin 1)) k = ix2 k (0 : Fin 1) := fun k => funext fun a => match a with | ⟨0, _⟩ => rfl | ⟨1, _⟩ => rfl
  have e2 : idx_main_v32 (ix2 t (0 : Fin 1)) = ix2 (0 : Fin 1) (0 : Fin 1) := funext fun a => match a with | ⟨0, _⟩ => rfl | ⟨1, _⟩ => rfl
  have e3 : idx_main_v31 (ix2 (0 : Fin 1) (0 : Fin 1)) = ix1 (0 : Fin 1) := funext fun a => match a with | ⟨0, _⟩ => rfl
  rw [val_main_v34_apply, e1, val_main_v33_apply, val_main_v30_apply, val_main_v32_apply, e2, val_main_v31_apply, e3]
  simp only [el, er, ref_gelu]
  rfl

end Cert.Bags

end
-- ==== Proof.KerArray.lean ====
/-
  The kernel's result array: the points' blocks read from the arguments, and the pooling of every bag.
-/
module

public import proofs.«01_k».proof.Proof.KerBlock
public import proofs.«01_k».proof.Proof.RefScore

@[expose] public section

set_option maxRecDepth 16384

noncomputable section

namespace Cert.Bags

open Idealize.ShloMosaic Idealize.ShloMosaic.TcCoe Cert.KernelIdeal Cert.KernelIdeal.Gen
open Idealize.SL.Sem
open Idealize.ShloMosaic.Pipeline (Dat)

variable (m : (ℓ : Loc nD τ sig) → Buf (Elt Ideal) ℓ)

/-- Point `t` takes block `t` of the rows and of the result, and the whole of the other arrays. -/
theorem blocks : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0, 0] :=
  (by decide +kernel : ∀ t : Fin grid0.N, _)

/-- The rows, the first weights, their bias, the classifier and its bias, as launched. -/
abbrev rows (c : Dev nD) : FVec Ideal S32768x1024 .f32 := m ((c : Thread nD τ).loc main_arg0)
abbrev wAttn (c : Dev nD) : FVec Ideal S1024x256 .f32 := m ((c : Thread nD τ).loc main_arg2)
abbrev bAttn (c : Dev nD) : FVec Ideal S256 .f32 := m ((c : Thread nD τ).loc main_arg3)
abbrev wCls (c : Dev nD) : FVec Ideal S256x1 .f32 := m ((c : Thread nD τ).loc main_arg4)
abbrev bCls (c : Dev nD) : FVec Ideal S1 .f32 := m ((c : Thread nD τ).loc main_arg5)

variable (c : Dev nD) (t : Fin cfg0.N)

/-- The first bias as the grid finds it: laid out as a row. -/
theorem entry_v0 : V m c main_v0 = shapeCast S1x256 (bAttn m c) shapeCasts_S256_S1x256 := by
  show StableHlo.after hostOps0 (fun b => m (c, b)) (Proc.devRef .tc main_v0) = _
  unfold hostOps0
  after_results
  rfl

/-- The classifier's bias as the grid finds it: laid out as a one by one matrix. -/
theorem entry_v1 : V m c main_v1 = shapeCast S1x1 (bCls m c) shapeCasts_S1_S1x1 := by
  show StableHlo.after hostOps0 (fun b => m (c, b)) (Proc.devRef .tc main_v1) = _
  unfold hostOps0
  after_results
  rfl

/-- The point's rows are rows `4096 t + p`. -/
theorem blk0_at (p : Fin 4096) (j : Fin 1024) (h : 4096 * t.val + p.val < 32768) :
    (show Vec Ideal S4096x1024 .f32 from iblk m c 0 t) (ix2 p j) = rows m c (ix2 ⟨4096 * t.val + p.val, h⟩ j) := by
  blk_ext [iblk, V, blocks t]

/-- The first weights are whole. -/
theorem blk1_at (j : Fin 1024) (k : Fin 256) :
    (show Vec Ideal S1024x256 .f32 from iblk m c 1 t) (ix2 j k) = wAttn m c (ix2 j k) := by
  blk_ext [iblk, V, blocks t]

/-- Their bias is whole, laid out as a row. -/
theorem blk2_at (k : Fin 256) : (show Vec Ideal S1x256 .f32 from iblk m c 2 t) (ix2 (0 : Fin 1) k) = bAttn m c (ix1 k) := by
  blk_simp [iblk, blocks t]
  rw [entry_v0]
  pointwise
  blk_ext [blocks t]

/-- The classifier is whole. -/
theorem blk3_at (k : Fin 256) : (show Vec Ideal S256x1 .f32 from iblk m c 3 t) (ix2 k (0 : Fin 1)) = wCls m c (ix2 k (0 : Fin 1)) := by
  blk_ext [iblk, V, blocks t]

/-- Its bias is whole, laid out as a one by one matrix. -/
theorem blk4_at : (show Vec Ideal S1x1 .f32 from iblk m c 4 t) (ix2 (0 : Fin 1) (0 : Fin 1)) = bCls m c (ix1 (0 : Fin 1)) := by
  blk_simp [iblk, blocks t]
  rw [entry_v1]
  pointwise
  blk_ext [blocks t]

/-- A row's score in a point's block is the score of that row of the whole array. -/
theorem block_score (p : Fin 4096) (b : Fin 16) (r : Fin 2048) (hp : 4096 * t.val + p.val = 2048 * b.val + r.val) :
    rowScore (iblk m c 0 t) (iblk m c 1 t) (iblk m c 2 t) (iblk m c 3 t) (iblk m c 4 t) p
      = scores (rows m c) (wAttn m c) (bAttn m c) (wCls m c) (bCls m c) (row b r) := by
  have h : 4096 * t.val + p.val < 32768 := by omega
  have hr : (⟨4096 * t.val + p.val, h⟩ : Fin 32768) = row b r := Fin.ext hp
  unfold rowScore scores
  congr 1
  · funext j
    exact (blk0_at m c t p j h).trans (congrArg (fun q => rows m c (ix2 q j)) hr)
  · funext j k
    exact blk1_at m c t j k
  · funext k
    exact blk2_at m c t k
  · funext k
    exact blk3_at m c t k
  · exact blk4_at m c t

/-- Every bag pooled: what the kernel's result array is shown to hold. -/
def pooled (b : Fin 16) (l : Fin 1024) : EReal :=
  kerPool (fun r : Fin 2048 => scores (rows m c) (wAttn m c) (bAttn m c) (wCls m c) (bCls m c) (row b r))
    (fun r => rows m c (ix2 (row b r) l))

/-- A point's pooling of its bag `k` is the pooling of bag `2 t + k`. -/
theorem bag_block (k : Fin 2) (l : Fin 1024) (b : Fin 16) (hb : b.val = 2 * t.val + k.val)
    (hlt : ∀ r : Fin 2048, 2048 * k.val + r.val < 4096) :
    kerPool (fun r : Fin 2048 => rowScore (iblk m c 0 t) (iblk m c 1 t) (iblk m c 2 t) (iblk m c 3 t) (iblk m c 4 t)
        ⟨2048 * k.val + r.val, hlt r⟩)
      (fun r => (show Vec Ideal S4096x1024 .f32 from iblk m c 0 t) (ix2 ⟨2048 * k.val + r.val, hlt r⟩ l)) = pooled m c b l := by
  have e (r : Fin 2048) : 4096 * t.val + (2048 * k.val + r.val) = 2048 * b.val + r.val := by omega
  have hs : (fun r : Fin 2048 => rowScore (iblk m c 0 t) (iblk m c 1 t) (iblk m c 2 t) (iblk m c 3 t) (iblk m c 4 t)
        ⟨2048 * k.val + r.val, hlt r⟩)
      = fun r => scores (rows m c) (wAttn m c) (bAttn m c) (wCls m c) (bCls m c) (row b r) :=
    funext fun r => block_score m c t _ b r (e r)
  have hx : (fun r : Fin 2048 => (show Vec Ideal S4096x1024 .f32 from iblk m c 0 t) (ix2 ⟨2048 * k.val + r.val, hlt r⟩ l))
      = fun r => rows m c (ix2 (row b r) l) :=
    funext fun r => (blk0_at m c t ⟨2048 * k.val + r.val, hlt r⟩ l
      (lt_of_eq_of_lt (e r) (row b r).isLt)).trans (congrArg (fun q => rows m c (ix2 q l)) (Fin.ext (e r)))
  rw [hs, hx]
  rfl

/-- The cell of the result array that point `t` writes from bag `k`, column `l` of its block. -/
theorem cell (k : Fin 2) (l : Fin 1024) :
    (((win0_5.blk t).view.emb (ix3 k (0 : Fin 1) l)) 0).val = 2 * t.val + k.val
      ∧ ((win0_5.blk t).view.emb (ix3 k (0 : Fin 1) l)) 2 = (l : Fin 1024) := by
  constructor
  · blk_simp [blocks t]
    omega
  · refine Fin.ext ?_
    blk_simp [blocks t]

/-- What point `t` writes to its block: the two bags it pools. -/
theorem block_out (y : S2x1x1024.Idx) : outsAt0 m c t y
    = pooled m c (((win0_5.blk t).view.emb y) 0) (((win0_5.blk t).view.emb y) 2) := by
  obtain ⟨k, z, l, rfl⟩ : ∃ (k : Fin 2) (z : Fin 1) (l : Fin 1024), y = ix3 k z l := ⟨y 0, y 1, y 2, eq_ix3 y⟩
  obtain rfl : z = 0 := Subsingleton.elim _ _
  rw [(cell t k l).2]
  exact (outs_at m c t k l).trans (bag_block m c t k l _ (cell t k l).1 _)

/-- After the grid the result array holds every bag pooled. -/
theorem array : (dats m 0 c).arrAt 5 (cfgs 0).N = (fun j : S16x1x1024.Idx => pooled m c (j 0) (j 2)) := by
  refine (dats m 0 c).arrAt_eq_of_covers 5 _ (by decide +kernel) fun t _ y => ?_
  blk_simp [blocks t]
  rw [after0_5]
  exact block_out m c t y

/-- The program's result, the array with its unit axis dropped, at bag `b` and column `l`. -/
theorem tail_at (b : Fin 16) (l : Fin 1024) :
    (show FVec Ideal S16x1024 .f32 from Pipeline.afterTail₀ cfgs (dats m) 0 (V0 m) [hostOps1] c main_v3) (ix2 b l) = pooled m c b l := by
  unfold Pipeline.afterTail₀
  show StableHlo.after hostOps1 _ (Proc.devRef .tc main_v3) _ = _
  unfold hostOps1
  after_results
  have e : Pipeline.withArrays (cfgs 0).spec c (V0 m c) (fun w => (dats m 0 c).arrAt w (cfgs 0).N) (Proc.devRef .tc main_v2)
      = (fun j : S16x1x1024.Idx => pooled m c (j 0) (j 2)) :=
    (Pipeline.withArrays_arr (cfgs 0).spec launch0.win.arr_inj c (V0 m c) (fun w => (dats m 0 c).arrAt w (cfgs 0).N) 5).trans (array m c)
  refine (congrArg (fun v => shapeCast S16x1024 v shapeCasts_S16x1x1024_S16x1024 (ix2 b l)) e).trans ?_
  pointwise

end Cert.Bags
-- ==== Proof.Scatters.lean ====
/-
  Two scatters by one index word for each update, read at the place where an update lands, at any extents:
  scalars into a vector, and rows into a matrix. Nothing here names a program.
-/
module

public import Idealize.ShloMosaic.Lib.Routing.OpsPair
public import Idealize.ShloMosaic.Lib.Routing.Ops

@[expose] public section

namespace Cert.Bags

open Idealize.ShloMosaic Idealize.ShloMosaic.ValueIdx Idealize.ShloMosaic.Routing

/-- Update `i` of a scatter of `M` scalars into a vector of `N` lands at `x` exactly when its index word, read signed, is `x`. -/
theorem lands_scalar {N M : Nat} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ix1 i) idx = some (ix1 x) ↔ (idx (ix2 i (0 : Fin 1))).toInt = (x.val : Int) := by
  have hm : (0 : Fin 1) ∈ d.scatterDimsToOperandDims := by rw [hsd]; simp
  have hw : d.window (ix1 i) 0 = 0 := by
    unfold ScatterDims.window
    exact dif_neg fun h => (of_decide_eq_true (List.mem_filter.1 h).2) (by rw [hiw]; simp)
  have hsi : d.siIdx (ix1 i) ⟨d.scatterDimsToOperandDims.idxOf 0, List.idxOf_lt_length_iff.2 hm⟩ = ix2 i (0 : Fin 1) := by
    funext b
    refine Fin.ext ?_
    match b with
    | ⟨0, _⟩ =>
      unfold ScatterDims.siIdx
      rw [dif_neg (by rw [hivd]; exact Nat.zero_ne_one)]
      unfold ScatterDims.siCoord
      have e : ∀ X : Fin 1, (ix1 i X).val = i.val := fun X => by rw [Subsingleton.elim X 0]
      exact e _
    | ⟨1, _⟩ => exact Nat.lt_one_iff.1 (Fin.isLt _)
  have hs : d.start (ix1 i) idx 0 = (idx (ix2 i (0 : Fin 1))).toInt := by
    unfold ScatterDims.start
    rw [dif_pos hm, hsi]
  rw [resultIdx?_ix1, hs, hw]
  omega

/-- Update `(i, b)` of a scatter of `M` rows into a matrix lands at `(r, c)` exactly when row `i`'s index word, read signed, is `r`, and `b` is `c`. -/
theorem lands_row {R C M : Nat} (d : ScatterDims (shape2 R C) (shape2 M 1) (shape2 M C)) (huw : d.updateWindowDims = [1])
    (hiw : d.insertedWindowDims = [0]) (hsd : d.scatterDimsToOperandDims = [0]) (hivd : d.indexVectorDim = 1)
    (idx : IVec (shape2 M 1) 32) (i : Fin M) (b c : Fin C) (r : Fin R) :
    d.resultIdx? (ix2 i b) idx = some (ix2 r c) ↔ (idx (ix2 i (0 : Fin 1))).toInt = (r.val : Int) ∧ b = c := by
  have hm : (0 : Fin 2) ∈ d.scatterDimsToOperandDims := by rw [hsd]; simp
  have hk : d.sKept = [1] := by
    show (shape2 R C).kept d.insertedWindowDims = _
    rw [hiw]
    rfl
  have hu : d.uScatter = [0] := by
    show (shape2 M C).kept d.updateWindowDims = _
    rw [huw]
    rfl
  have pick : ∀ (l : List (Fin 2)) (n : ℕ) (h : n < l.length) (m : Fin 2), l = [m] → l[n]'h = m := by
    intro l n h m hl
    subst hl
    simp
  have hw0 : d.window (ix2 i b) 0 = 0 := by
    unfold ScatterDims.window
    exact dif_neg fun h => (of_decide_eq_true (List.mem_filter.1 h).2) (by rw [hiw]; simp)
  have hw1 : d.window (ix2 i b) 1 = b.val := by
    have h1 : (1 : Fin 2) ∈ d.sKept := by rw [hk]; simp
    unfold ScatterDims.window
    rw [dif_pos h1]
    have e : ∀ q : Fin 2, q = 1 → (ix2 i b q).val = b.val := fun q hq => by rw [hq]
    exact e _ (pick _ _ _ 1 huw)
  have hsi : d.siIdx (ix2 i b) ⟨d.scatterDimsToOperandDims.idxOf 0, List.idxOf_lt_length_iff.2 hm⟩ = ix2 i (0 : Fin 1) := by
    funext q
    refine Fin.ext ?_
    match q with
    | ⟨0, _⟩ =>
      unfold ScatterDims.siIdx
      rw [dif_neg (by rw [hivd]; exact Nat.zero_ne_one)]
      unfold ScatterDims.siCoord
      simp only [Fin.val_cast]
      rw [pick _ _ _ 0 hu]
    | ⟨1, _⟩ => exact Nat.lt_one_iff.1 (Fin.isLt _)
  have hs0 : d.start (ix2 i b) idx 0 = (idx (ix2 i (0 : Fin 1))).toInt := by
    unfold ScatterDims.start
    rw [dif_pos hm, hsi]
  have hs1 : d.start (ix2 i b) idx 1 = 0 := by
    unfold ScatterDims.start
    exact dif_neg (by rw [hsd]; simp)
  rw [resultIdx?_ix2, hs0, hs1, hw0, hw1, Fin.ext_iff]
  omega

end Cert.Bags
-- ==== Proof.Seg.lean ====
/-
  The reference's row-to-bag map, when each of the 16 bags has 2048 rows: the integer operations by which the reference
  repeats the bag numbers (the roll, the two cumulative sums, the count of bag starts, the take) leave `t / 2048` at row `t`.
-/
module

public import proofs.«01_k».proof.Proof.Gen.ReferenceIdeal.Read
public import proofs.«01_k».proof.Proof.Scatters
public import Idealize.ShloMosaic.Lib.Routing.OpsOne
public import Idealize.ShloMosaic.Lib.Routing.OpsSearch
public import Idealize.ShloMosaic.Lib.ReduceAll

@[expose] public section

set_option maxRecDepth 16384

noncomputable section

namespace Cert.Bags

open Idealize.ShloMosaic Idealize.ShloMosaic.ValueIdx Idealize.ShloMosaic.Routing Cert.ReferenceIdeal Cert.ReferenceIdeal.Read

/-- The number of bags that start at row `x`. -/
def starts (x : ℕ) : ℕ := Nat.count (fun n => 2048 * n = x) 16

/-- A bag starts at each multiple of 2048. -/
theorem starts_eq (x : ℕ) (hx : x < 32768) : starts x = if x % 2048 = 0 then 1 else 0 := by
  unfold starts
  rw [Nat.count_eq_card_filter_range]
  split
  · next h =>
    rw [Finset.card_eq_one]
    refine ⟨x / 2048, Finset.ext fun n => ?_⟩
    simp only [Finset.mem_filter, Finset.mem_range, Finset.mem_singleton]
    omega
  · next h =>
    rw [Finset.card_eq_zero, Finset.filter_eq_empty_iff]
    intro n _
    omega

/-- The bags that start at row `j` or before. -/
theorem sum_starts : ∀ j : ℕ, j < 32768 → ((List.range (j + 1)).map starts).sum = j / 2048 + 1
  | 0, _ => by
    rw [List.range_succ]
    simp [starts_eq]
  | j + 1, h => by
    rw [List.range_succ, List.map_append, List.sum_append, sum_starts j (by omega)]
    simp only [List.map_cons, List.map_nil, List.sum_cons, List.sum_nil]
    rw [starts_eq _ h]
    split <;> omega

/-- The rows before bag `j`. -/
theorem sum_lengths (j : ℕ) : ((List.range (j + 1)).map fun e => if e = 0 then 0 else 2048).sum = 2048 * j := by
  induction j with
  | zero => rfl
  | succ j ih =>
    rw [List.range_succ, List.map_append, List.sum_append, ih]
    simp
    omega

/-- A fold that adds one word for each hit counts the hits. -/
theorem fold_hits {ι : Type} (l : List ι) (hit : ι → Prop) [DecidablePred hit] (g : ι → BitVec 32) (hg : ∀ n, g n = 1#32) (z : ℕ) :
    l.foldl (fun a n => if hit n then IntOp.addi a (g n) else a) (BitVec.ofNat 32 z)
      = BitVec.ofNat 32 (z + l.countP fun n => decide (hit n)) := by
  induction l generalizing z with
  | nil => rfl
  | cons n l ih =>
    rw [List.foldl_cons, List.countP_cons]
    by_cases h : hit n
    · rw [if_pos h, hg, show IntOp.addi (BitVec.ofNat 32 z) 1#32 = BitVec.ofNat 32 (z + 1) from (BitVec.ofNat_add z 1).symm, ih]
      simp only [h, decide_true, if_true]
      congr 1
      omega
    · rw [if_neg h, ih]
      simp only [h, decide_false]
      rfl

/-- An array of words all of which are the word of a natural. -/
theorem ofNat_toInt {n : ℕ} (h : n < 2 ^ 31) : (BitVec.ofNat 32 n).toInt = (n : ℤ) := StableHlo.Predicate.toInt_ofNat_small _ h

variable (x1 : IVec S16 32) (h : ∀ i, x1 i = 2048#32)

include h

/-- The rolled lengths. -/
theorem rolled (i : S16.Idx) : val_main_v1 (F := Ideal) x1 i = 2048#32 := by
  unfold val_main_v1
  by_cases h0 : (i 0).val < 1
  · rw [concatenate_pair_apply_left (s₁ := S1) (s₂ := S15) 0 _ _ _ i rfl (ix1 (0 : Fin 1))
      fun b => match b with | ⟨0, _⟩ => (Nat.lt_one_iff.1 h0).symm]
    exact h _
  · have hi : (i 0).val < 16 := (i 0).isLt
    rw [concatenate_pair_apply_right (s₁ := S1) (s₂ := S15) 0 _ _ _ i rfl rfl (ix1 (⟨(i 0).val - 1, by omega⟩ : Fin 15))
      (fun b hb => absurd (Subsingleton.elim (α := Fin 1) _ _) hb) (by show (i 0).val - 1 + 1 = (i 0).val; omega)]
    exact h _

/-- The rolled lengths with the first set to zero. -/
theorem zeroed (e : Fin 16) : val_main_v3 (F := Ideal) x1 (ix1 e) = BitVec.ofNat 32 (if e.val = 0 then 0 else 2048) := by
  unfold val_main_v3
  rw [scatter_one scatter_S16_S1_S__n_0_0_0 rfl rfl _ _ _ (0 : Fin 16) (by decide) rfl e, rolled x1 h]
  by_cases h0 : e = 0
  · subst h0
    rfl
  · have h1 : ¬ e.val = 0 := fun q => h0 (Fin.ext q)
    rw [if_neg h0, if_neg h1]

/-- The first row of each bag. -/
theorem firsts (j : Fin 16) : val_main_v4 (F := Ideal) x1 (ix1 j) = BitVec.ofNat 32 (2048 * j.val) := by
  unfold val_main_v4
  rw [← sum_lengths]
  exact cumsum1 rfl _ _ (zeroed x1 h) _ rfl _ _ j

/-- The wrap of a negative index changes none of them. -/
theorem wrapped (j : Fin 16) : val_main_v11 (F := Ideal) x1 (ix2 j (0 : Fin 1)) = BitVec.ofNat 32 (2048 * j.val) := by
  have e : idx_main_v11 (ix2 j (0 : Fin 1)) = ix1 j := funext fun a => match a with | ⟨0, _⟩ => rfl
  rw [val_main_v11_apply, e, val_main_v10_apply, ← firsts x1 h j]
  refine wrap_of_lt _ _ ?_
  rw [firsts x1 h j, BitVec.toNat_ofNat]
  have := j.isLt
  omega

/-- The number of bags that start at each row. -/
theorem counts (x : Fin 32768) : val_main_v13 (F := Ideal) x1 (ix1 x) = BitVec.ofNat 32 (starts x.val) := by
  have hl : ∀ n : Fin (shape1 16).numel, scatter_S32768_S16x1_S16_n_0_0_1.resultIdx? ((shape1 16).rowMajor.symm n) (val_main_v11 (F := Ideal) x1)
      = some (ix1 x) ↔ 2048 * n.val = x.val := fun n => by
    rw [symm1, lands_scalar scatter_S32768_S16x1_S16_n_0_0_1 rfl rfl rfl, wrapped x1 h,
      ofNat_toInt (by have := (n.cast (numel1 16)).isLt; omega)]
    show ((2048 * n.val : ℕ) : ℤ) = _ ↔ _
    omega
  unfold val_main_v13
  rw [scatter_at]
  refine Eq.trans (b := (List.finRange (shape1 16).numel).foldl (fun a n => if 2048 * n.val = x.val then IntOp.addi a 1#32 else a) (BitVec.ofNat 32 0)) ?_ ?_
  · refine congrArg (fun f => (List.finRange (shape1 16).numel).foldl f (BitVec.ofNat 32 0)) (funext fun a => funext fun n => ?_)
    by_cases q : 2048 * n.val = x.val
    · rw [if_pos q, if_pos ((hl n).2 q)]
      rfl
    · rw [if_neg q, if_neg fun c => q ((hl n).1 c)]
  · rw [fold_hits _ (fun n : Fin (shape1 16).numel => 2048 * n.val = x.val) (fun _ => 1#32) (fun _ => rfl), Nat.zero_add,
      countP_finRange _ (fun n => 2048 * n = x.val), numel1]
    rfl

/-- The number of the bag that a row lies in. -/
theorem bagNo (t : Fin 32768) : val_main_v16 (F := Ideal) x1 (ix1 t) = BitVec.ofNat 32 (t.val / 2048) := by
  have e : val_main_v14 (F := Ideal) x1 (ix1 t) = BitVec.ofNat 32 (t.val / 2048 + 1) := by
    unfold val_main_v14
    rw [← sum_starts _ t.isLt]
    exact cumsum1 rfl _ _ (counts x1 h) _ rfl _ _ t
  rw [val_main_v16_apply, e]
  show BitVec.ofNat 32 (t.val / 2048 + 1) - 1#32 = _
  apply BitVec.eq_of_toNat_eq
  have := t.isLt
  simp only [BitVec.toNat_sub, BitVec.toNat_ofNat]
  omega

/-- The index column of the take. -/
theorem takeIdx (t : Fin 32768) : val_main_call3_v5 (F := Ideal) x1 (ix2 t (0 : Fin 1)) = BitVec.ofNat 32 (t.val / 2048) := by
  have e : idx_main_call3_v5 (ix2 t (0 : Fin 1)) = ix1 t := funext fun a => match a with | ⟨0, _⟩ => rfl
  rw [val_main_call3_v5_apply, e, val_main_call3_v4_apply, val_main_call3_v1_apply, val_main_call3_v0_apply, val_main_call3_c_apply, ← bagNo x1 h t]
  refine wrap_of_lt _ _ ?_
  rw [bagNo x1 h t, BitVec.toNat_ofNat]
  have := t.isLt
  omega

/-- Every index of the take is in range. -/
theorem inRange (i : S32768x1.Idx) : val_main_call3_v11 (F := Ideal) x1 i = 1#1 := by
  obtain ⟨t, u, rfl⟩ : ∃ (t : Fin 32768) (u : Fin 1), i = ix2 t u := ⟨i 0, i 1, eq_ix2 i⟩
  obtain rfl : u = 0 := Subsingleton.elim _ _
  have hlt : t.val / 2048 < 16 := by have := t.isLt; omega
  rw [val_main_call3_v11_apply, val_main_call3_v7_apply, val_main_call3_v10_apply, takeIdx x1 h]
  generalize t.val / 2048 = q at hlt
  show IntOp.andi (IntOp.cmpi .sge (BitVec.ofNat 32 q) 0#32) (IntOp.cmpi .sle (BitVec.ofNat 32 q) 15#32) = 1#1
  interval_cases q <;> decide

/-- **The row-to-bag map**: row `t` lies in bag `t / 2048`. -/
theorem seg (t : Fin 32768) : val_main_v17 (F := Ideal) x1 (ix1 t) = BitVec.ofNat 32 (t.val / 2048) := by
  have e : val_main_call3_v12 (F := Ideal) x1 (ix1 t) = 1#1 :=
    Host.reduce_andi_one _ _ _ _ _ rfl (inRange x1 h)
  have hlt : t.val / 2048 < 16 := by have := t.isLt; omega
  rw [val_main_v17_apply, e]
  show val_main_call3_v13 (F := Ideal) x1 (ix1 t) = _
  unfold val_main_call3_v13
  rw [take_ap gather_S16_S32768x1_S32768_n_0_n_n_0_1_1 rfl rfl rfl rfl _ _ t hlt (by omega) (takeIdx x1 h t)]
  rfl

end Cert.Bags

end
-- ==== Proof.MaxRows.lean ====
/-
  The reference's row-wise maximum over a `[16, 32768]` array, read as a supremum.
-/
module

public import proofs.«01_k».proof.Proof.Gen.ReferenceIdeal
public import Idealize.ShloMosaic.Lib.Pointwise
public import Idealize.ShloMosaic.PureOps.Ideal.Laws

@[expose] public section

noncomputable section

namespace Cert.Bags

open Idealize.ShloMosaic Cert.ReferenceIdeal

/-- A row-wise maximum from minus infinity is the row's supremum. -/
theorem max_rows (v : FVec Ideal S16x32768 .f32) (c : FVec Ideal S_ .f32) (hc : ∀ i, c i = (⊥ : EReal)) (b : Fin 16) :
    Host.reduce FloatOps.maximumf v c Gen.reducesTo_S16x32768_S16_d1 Gen.h_S_ (ValueIdx.ix1 b)
      = Finset.univ.sup fun t : Fin 32768 => (v (ValueIdx.ix2 b t) : EReal) := by
  simp only [pointwise]
  rw [hc]
  rfl

end Cert.Bags

end
-- ==== Proof.RefPool.lean ====
/-
  The reference's result: entry `(b, l)` is the pooling of lane `l` over the rows of bag `b`, each weight divided by the bag's total.
-/
module

public import proofs.«01_k».proof.Proof.Seg
public import proofs.«01_k».proof.Proof.RefScore
public import proofs.«01_k».proof.Proof.MaxRows

@[expose] public section

set_option maxRecDepth 16384

noncomputable section

namespace Cert.Bags

open Idealize.ShloMosaic hiding ix1 ix2 eq_ix1 eq_ix2
open Idealize.ShloMosaic.ValueIdx Idealize.ShloMosaic.Routing Cert.ReferenceIdeal Cert.ReferenceIdeal.Read

/-- A scatter-add of one number for each row, to the row's bag: bag `b` gets the sum over its rows. -/
theorem scatter_sum (x : FVec Ideal S16 .f32) (idx : IVec S32768x1 32) (u : FVec Ideal S32768 .f32)
    (hi : ∀ t : Fin 32768, idx (ix2 t (0 : Fin 1)) = BitVec.ofNat 32 (t.val / 2048)) (b : Fin 16) :
    Host.scatterAdd scatter_S16_S32768x1_S32768_n_0_0_1 x idx u (ix1 b) = x (ix1 b) + ∑ r, u (ix1 (row b r)) := by
  have hl : ∀ t : Fin 32768, scatter_S16_S32768x1_S32768_n_0_0_1.resultIdx? (ix1 t) idx = some (ix1 b) ↔ t.val / 2048 = b.val := fun t => by
    rw [lands_scalar scatter_S16_S32768x1_S32768_n_0_0_1 rfl rfl rfl, hi, ofNat_toInt (by omega)]
    omega
  show x (ix1 b) + ∑ j ∈ Finset.univ.filter (fun j => scatter_S16_S32768x1_S32768_n_0_0_1.resultIdx? j idx = some (ix1 b)), u j = _
  refine congrArg (x (ix1 b) + ·) (Finset.sum_bij (fun r _ => ix1 (row b r)) (fun r _ => ?_) (fun r _ s _ e => ?_) (fun j hj => ?_) fun _ _ => rfl).symm
  · refine Finset.mem_filter.2 ⟨Finset.mem_univ _, (hl _).2 ?_⟩
    show (2048 * b.val + r.val) / 2048 = b.val
    omega
  · have e0 : (2048 * b.val + r.val) = 2048 * b.val + s.val := congrArg Fin.val (congrFun e 0)
    exact Fin.ext (by omega)
  · obtain ⟨t, rfl⟩ : ∃ t : Fin 32768, j = ix1 t := ⟨j 0, eq_ix1 j⟩
    have ht := (hl t).1 (Finset.mem_filter.1 hj).2
    refine ⟨⟨t.val % 2048, Nat.mod_lt _ (by decide)⟩, Finset.mem_univ _, congrArg ix1 (Fin.ext ?_)⟩
    show 2048 * b.val + t.val % 2048 = t.val
    omega

/-- A scatter-add of the rows themselves, to the row's bag: bag `b` gets, lane by lane, the sum over its rows. -/
theorem scatter_rows (x : FVec Ideal S16x1024 .f32) (idx : IVec S32768x1 32) (u : FVec Ideal S32768x1024 .f32)
    (hi : ∀ t : Fin 32768, idx (ix2 t (0 : Fin 1)) = BitVec.ofNat 32 (t.val / 2048)) (b : Fin 16) (l : Fin 1024) :
    Host.scatterAdd scatter_S16x1024_S32768x1_S32768x1024_1_0_0_1 x idx u (ix2 b l) = x (ix2 b l) + ∑ r, u (ix2 (row b r) l) := by
  have hl : ∀ (t : Fin 32768) (q : Fin 1024), scatter_S16x1024_S32768x1_S32768x1024_1_0_0_1.resultIdx? (ix2 t q) idx = some (ix2 b l)
      ↔ t.val / 2048 = b.val ∧ q = l := fun t q => by
    rw [lands_row scatter_S16x1024_S32768x1_S32768x1024_1_0_0_1 rfl rfl rfl rfl, hi, ofNat_toInt (by omega), Nat.cast_inj]
  show x (ix2 b l) + ∑ j ∈ Finset.univ.filter (fun j => scatter_S16x1024_S32768x1_S32768x1024_1_0_0_1.resultIdx? j idx = some (ix2 b l)), u j = _
  refine congrArg (x (ix2 b l) + ·) (Finset.sum_bij (fun r _ => ix2 (row b r) l) (fun r _ => ?_) (fun r _ s _ e => ?_) (fun j hj => ?_) fun _ _ => rfl).symm
  · refine Finset.mem_filter.2 ⟨Finset.mem_univ _, (hl _ _).2 ⟨?_, rfl⟩⟩
    show (2048 * b.val + r.val) / 2048 = b.val
    omega
  · have e0 : (2048 * b.val + r.val) = 2048 * b.val + s.val := congrArg Fin.val (congrFun e 0)
    exact Fin.ext (by omega)
  · obtain ⟨t, q, rfl⟩ : ∃ (t : Fin 32768) (q : Fin 1024), j = ix2 t q := ⟨j 0, j 1, eq_ix2 j⟩
    obtain ⟨ht, rfl⟩ := (hl t q).1 (Finset.mem_filter.1 hj).2
    refine ⟨⟨t.val % 2048, Nat.mod_lt _ (by decide)⟩, Finset.mem_univ _, congrArg (fun p => ix2 p q) (Fin.ext ?_)⟩
    show 2048 * b.val + t.val % 2048 = t.val
    omega

variable (x0 : FVec Ideal S32768x1024 .f32) (x1 : IVec S16 32) (x2 : FVec Ideal S1024x256 .f32) (x3 : FVec Ideal S256 .f32) (x4 : FVec Ideal S256x1 .f32)
  (x5 : FVec Ideal S1 .f32) (h : ∀ i, x1 i = 2048#32)

include h

/-- A bag number is a small word. -/
theorem seg_small (t : Fin 32768) : (val_main_v17 (F := Ideal) x1 (ix1 t)).toNat < 2 ^ 31 := by
  rw [seg x1 h, BitVec.toNat_ofNat]
  have := t.isLt
  omega

/-- The bag's largest score. -/
theorem ref_max (b : Fin 16) :
    val_main_v43 (F := Ideal) x0 x1 x2 x3 x4 x5 (ix1 b) = Finset.univ.sup fun r => scores x0 x2 x3 x4 x5 (row b r) := by
  have hm : ∀ t : Fin 32768, val_main_v40 (F := Ideal) x1 (ix2 b t) = BitVec.ofBool (decide (t.val / 2048 = b.val)) := fun t => by
    have e1 : idx_main_v38 (ix2 b t) = ix2 (0 : Fin 1) t := funext fun a => match a with | ⟨0, _⟩ => rfl | ⟨1, _⟩ => rfl
    have e2 : idx_main_v35 (ix2 (0 : Fin 1) t) = ix1 t := funext fun a => match a with | ⟨0, _⟩ => rfl
    have e3 : idx_main_v39 (ix2 b t) = ix2 b (0 : Fin 1) := funext fun a => match a with | ⟨0, _⟩ => rfl | ⟨1, _⟩ => rfl
    have e4 : idx_main_v37 (ix2 b (0 : Fin 1)) = ix1 b := funext fun a => match a with | ⟨0, _⟩ => rfl
    rw [val_main_v40_apply, val_main_v38_apply, e1, val_main_v35_apply, e2, val_main_v39_apply, e3, val_main_v37_apply, e4, val_main_v36_apply, seg x1 h]
    show BitVec.ofBool (BitVec.ofNat 32 (t.val / 2048) == BitVec.ofNat 32 b.val) = _
    congr 1
    have hb := b.isLt
    have ht := t.isLt
    by_cases q : t.val / 2048 = b.val
    · rw [q]
      simp
    · rw [decide_eq_false q, beq_false_of_ne fun c => q ?_]
      have c' := congrArg BitVec.toNat c
      simp only [BitVec.toNat_ofNat] at c'
      omega
  have hv : ∀ t : Fin 32768, val_main_v42 (F := Ideal) x0 x1 x2 x3 x4 x5 (ix2 b t)
      = if t.val / 2048 = b.val then scores x0 x2 x3 x4 x5 t else (⊥ : EReal) := fun t => by
    have e1 : idx_main_call4_v1 (ix2 b t) = ix2 (0 : Fin 1) t := funext fun a => match a with | ⟨0, _⟩ => rfl | ⟨1, _⟩ => rfl
    have e2 : idx_main_v41 (ix2 (0 : Fin 1) t) = ix1 t := funext fun a => match a with | ⟨0, _⟩ => rfl
    rw [val_main_v42_apply, hm, val_main_call4_v1_apply, e1, val_main_v41_apply, e2, ref_score, val_main_call4_v2_apply, val_main_call4_v0_apply,
      val_main_cst_7_apply]
    by_cases q : t.val / 2048 = b.val
    · rw [if_pos q, decide_eq_true q]
      rfl
    · rw [if_neg q, decide_eq_false q]
      exact bits_bot
  unfold val_main_v43
  refine (max_rows _ (val_main_cst_8 (F := Ideal)) (fun _ => bits_bot) b).trans ?_
  exact sup_bag _ b _ (fun t q => (hv t).trans (if_pos q)) (fun t q => (hv t).trans (if_neg q))

/-- The weight of row `r` of bag `b`. -/
theorem ref_weight (b : Fin 16) (r : Fin 2048) :
    val_main_v52 (F := Ideal) x0 x1 x2 x3 x4 x5 (ix1 (row b r)) = weight (fun r => scores x0 x2 x3 x4 x5 (row b r)) r := by
  have hb : (row b r).val / 2048 = b.val := by
    show (2048 * b.val + r.val) / 2048 = b.val
    omega
  have e1 : idx_main_v49 (ix2 (row b r) (0 : Fin 1)) = ix1 (row b r) := funext fun a => match a with | ⟨0, _⟩ => rfl
  have hi : val_main_v49 (F := Ideal) x1 (ix2 (row b r) (0 : Fin 1)) = BitVec.ofNat 32 b.val := by
    rw [val_main_v49_apply, e1, val_main_v48_apply, val_main_v45_apply, val_main_v44_apply, val_main_c_9_apply, wrap_of_lt _ _ (seg_small x1 h _),
      seg x1 h, hb]
  have hg : val_main_v50 (F := Ideal) x0 x1 x2 x3 x4 x5 (ix1 (row b r)) = val_main_v43 (F := Ideal) x0 x1 x2 x3 x4 x5 (ix1 b) := by
    unfold val_main_v50
    exact take_ap gather_S16_S32768x1_S32768_n_0_n_n_0_1_1 rfl rfl rfl rfl _ _ (row b r) b.isLt (by omega) hi
  rw [val_main_v52_apply, val_main_v51_apply, hg, ref_max x0 x1 x2 x3 x4 x5 h, ref_score]
  rfl

/-- The bag's total. -/
theorem ref_total (b : Fin 16) :
    val_main_v55 (F := Ideal) x0 x1 x2 x3 x4 x5 (ix1 b) = ∑ r, weight (fun r => scores x0 x2 x3 x4 x5 (row b r)) r := by
  have hi : ∀ t : Fin 32768, val_main_v54 (F := Ideal) x1 (ix2 t (0 : Fin 1)) = BitVec.ofNat 32 (t.val / 2048) := fun t => by
    have e1 : idx_main_v54 (ix2 t (0 : Fin 1)) = ix1 t := funext fun a => match a with | ⟨0, _⟩ => rfl
    rw [val_main_v54_apply, e1, seg x1 h]
  unfold val_main_v55
  rw [scatter_sum _ _ _ hi, val_main_v53_apply, val_main_cst_11_apply]
  simp only [ref_weight x0 x1 x2 x3 x4 x5 h]
  refine (congrArg (· + _) Ideal.ofBits_zero_f32).trans (zero_add _)

/-- **The reference's result** at bag `b` and lane `l`. -/
theorem ref_value (b : Fin 16) (l : Fin 1024) :
    val_main_v69 (F := Ideal) x0 x1 x2 x3 x4 x5 (ix2 b l)
      = refPool (fun r => scores x0 x2 x3 x4 x5 (row b r)) (fun r => x0 (ix2 (row b r) l)) := by
  have hi : ∀ t : Fin 32768, val_main_v68 (F := Ideal) x1 (ix2 t (0 : Fin 1)) = BitVec.ofNat 32 (t.val / 2048) := fun t => by
    have e1 : idx_main_v68 (ix2 t (0 : Fin 1)) = ix1 t := funext fun a => match a with | ⟨0, _⟩ => rfl
    rw [val_main_v68_apply, e1, seg x1 h]
  have hu : ∀ r, val_main_v66 (F := Ideal) x0 x1 x2 x3 x4 x5 (ix2 (row b r) l)
      = Ideal.div (weight (fun r => scores x0 x2 x3 x4 x5 (row b r)) r) (∑ s, weight (fun r => scores x0 x2 x3 x4 x5 (row b r)) s)
        * x0 (ix2 (row b r) l) := fun r => by
    have hb : (row b r).val / 2048 = b.val := by
      show (2048 * b.val + r.val) / 2048 = b.val
      omega
    have e1 : idx_main_v65 (ix2 (row b r) l) = ix2 (row b r) (0 : Fin 1) := funext fun a => match a with | ⟨0, _⟩ => rfl | ⟨1, _⟩ => rfl
    have e2 : idx_main_v64 (ix2 (row b r) (0 : Fin 1)) = ix1 (row b r) := funext fun a => match a with | ⟨0, _⟩ => rfl
    have e3 : idx_main_v61 (ix2 (row b r) (0 : Fin 1)) = ix1 (row b r) := funext fun a => match a with | ⟨0, _⟩ => rfl
    have hj : val_main_v61 (F := Ideal) x1 (ix2 (row b r) (0 : Fin 1)) = BitVec.ofNat 32 b.val := by
      rw [val_main_v61_apply, e3, val_main_v60_apply, val_main_v57_apply, val_main_v56_apply, val_main_c_12_apply,
        wrap_of_lt _ _ (seg_small x1 h _), seg x1 h, hb]
    have hg : val_main_v62 (F := Ideal) x0 x1 x2 x3 x4 x5 (ix1 (row b r)) = val_main_v55 (F := Ideal) x0 x1 x2 x3 x4 x5 (ix1 b) := by
      unfold val_main_v62
      exact take_ap gather_S16_S32768x1_S32768_n_0_n_n_0_1_1 rfl rfl rfl rfl _ _ (row b r) b.isLt (by omega) hj
    rw [val_main_v66_apply, val_main_v65_apply, e1, val_main_v64_apply, e2, val_main_v63_apply, hg, ref_total x0 x1 x2 x3 x4 x5 h,
      ref_weight x0 x1 x2 x3 x4 x5 h]
    rfl
  unfold val_main_v69
  rw [scatter_rows _ _ _ hi, val_main_v67_apply, val_main_cst_14_apply]
  simp only [hu]
  exact (congrArg (· + _) Ideal.ofBits_zero_f32).trans (zero_add _)

end Cert.Bags

end
-- ==== Proof.Claims.lean ====
/-
  The claims, one theorem each: the three frames, the ledger of named constants, and the equality of the results.
-/
module

public import proofs.«01_k».proof.Defs
public import proofs.«01_k».proof.Proof.KerArray
public import proofs.«01_k».proof.Proof.RefPool
public import proofs.«01_k».proof.Proof.Pre
public import proofs.«01_k».proof.Proof.Gen.Kernel.Frame
public import proofs.«01_k».proof.Proof.Gen.Pre_finite_uniform
public import proofs.«01_k».proof.Proof.Gen.KernelIdeal.Frame
public import proofs.«01_k».proof.Proof.Gen.ReferenceIdeal.Run
public import proofs.«01_k».proof.Proof.Gen.ReferenceIdeal.Read

@[expose] public section

noncomputable section

namespace Cert.Bags

open Idealize.ShloMosaic Idealize.SL.Sem

/-- The compiled program runs, leaves its arguments as they were and every counter at zero. -/
theorem frame_P : Cert.quiescent_Kernel := fun m g _ => Cert.Kernel.Gen.frame m g

/-- So does its idealization. -/
theorem frame_PI : Cert.quiescent_KernelIdeal := fun m g _ => Cert.KernelIdeal.Gen.frame m g

/-- So does the reference. -/
theorem frame_RI : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The one constant given its name: the float nearest to `1 / √2` read as `1 / √2`. -/
theorem preserves : Cert.preserves_Kernel_KernelIdeal :=
  IdealRules.named_const.statement Cert.KernelIdeal.κ "inv_sqrt2" .f32 0x3F3504F3#32 (((Real.sqrt 2)⁻¹ : ℝ) : EReal) rfl

section Kernel

open Cert.KernelIdeal Cert.KernelIdeal.Gen

variable (m : (ℓ : Loc nD τ sig) → Buf (Elt Ideal) ℓ)

/-- The bag's rows pooled, as an array of bags. -/
def result (c : Dev nD) : FVec Ideal S16x1024 .f32 := fun j => pooled m c (j 0) (j 1)

/-- The kernel runs, and its result is every bag pooled. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.1 c).2 main_v3 (Pipeline.mem_restRefs_of main_v3 (by decide) (by decide))).trans
      (funext fun j => (congrArg _ (Idealize.ShloMosaic.eq_ix2 j)).trans (tail_at m c (j 0) (j 1))), h.2 c⟩)
    (θ_run_and (run_main m g) (unchanged m g))

end Kernel

/-- With the arguments finite and every bag of length 2048 the reference's pooling of a bag is the kernel's. -/
theorem reference_eq (m : (ℓ : Loc Cert.KernelIdeal.nD Cert.KernelIdeal.τ Cert.KernelIdeal.sig) → Buf (Elt Ideal) ℓ)
    (h : Pre_KernelIdeal_finite_uniform m) (c : Dev Cert.KernelIdeal.nD) :
    Cert.ReferenceIdeal.Read.val_main_v69 (F := Ideal) (rows m c) (m ((c.tc : Thread _ _).loc Cert.KernelIdeal.main_arg1))
      (wAttn m c) (bAttn m c) (wCls m c) (bCls m c) = result m c := by
  obtain ⟨hn, hx, hwa, hba, hwc, hbc⟩ := pre_reads _ _ _ _ _ _ (h c)
  funext j
  refine (congrArg _ (Idealize.ShloMosaic.eq_ix2 j)).trans ?_
  refine (ref_value _ _ _ _ _ _ hn (j 0) (j 1)).trans ?_
  exact (pool_eq (by decide) (fun r => scores_finite _ _ _ _ _ hx hwa hba hwc hbc (row (j 0) r)) (fun r => hx _)).symm

/-- From memories that agree on the arguments, and meet the precondition, the kernel's idealization and the reference end
    with equal results. -/
theorem algebraic : Cert.algebraic_KernelIdeal_ReferenceIdeal_pre_finite_uniform := by
  intro m g m' g' hp ha
  refine ⟨fun c => result m c, kernel_run m g, ?_⟩
  refine (θ_run Cert.ReferenceIdeal.defs _ _).mono (fun _ h c => ⟨(h c).1.trans ?_, (h c).2⟩)
    (Cert.ReferenceIdeal.Value.run (F := Ideal) m' g')
  refine (Cert.ReferenceIdeal.Read.val_main_v69_eq (StableHlo.launchContents m' c)).trans ?_
  obtain ⟨e0, e1, e2, e3, e4, e5⟩ := ha c
  show Cert.ReferenceIdeal.Read.val_main_v69 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = result m c
  rw [e0, e1, e2, e3, e4, e5]
  exact reference_eq m hp c

end Cert.Bags

end
-- ==== Proof.lean ====
/-
  The certificate: the kernel, its idealization and the reference all run and leave their arguments as they were; the
  idealization differs from the kernel only in one constant given its name; and, for finite arguments and bags of length
  2048, the idealization and the reference end with equal results.

  The parts: `Consts` (constants and gelu), `Spec` (scores and the two poolings, and that they agree), `Scatters`, `Seg`,
  `MaxRows`, `RefScore`, `RefPool` (the reference read at an index), `Pre` (the precondition read), `KerPay`, `KerBlock`,
  `KerArray` (the kernel read at an index), `Claims` (each claim by itself).
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_finite_uniform

@[expose] public section

noncomputable section

namespace Cert.Proof

open Cert.Bags

/-- Every claim of the certificate. -/
theorem claim : Cert.Claim := ⟨Cert.Kernel.Gen.facts, Cert.KernelIdeal.Gen.facts, Cert.ReferenceIdeal.Gen.facts, Cert.Pre_finite_uniform.Gen.facts,
  frame_P, frame_PI, fun m g _ => frame_PI m g trivial, frame_RI, fun m g _ => frame_RI m g trivial, preserves, algebraic⟩

end Cert.Proof

end
